-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_lower_bound_logits [hPre_finite_lower_bound_logits : Cert.Pre_finite_lower_bound_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_lower_bound_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_lower_bound_logits [hPre_finite_lower_bound_logits : Cert.Pre_finite_lower_bound_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_lower_bound_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_lower_bound_logits [hKernelIdeal : Cert.KernelIdeal.Facts] [hPre_finite_lower_bound_logits : Cert.Pre_finite_lower_bound_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_lower_bound_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_lower_bound_logits [hReferenceIdeal : Cert.ReferenceIdeal.Facts] [hPre_finite_lower_bound_logits : Cert.Pre_finite_lower_bound_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_lower_bound_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_lower_bound_logits [hKernelIdeal : Cert.KernelIdeal.Facts] [hReferenceIdeal : Cert.ReferenceIdeal.Facts] [hPre_finite_lower_bound_logits : Cert.Pre_finite_lower_bound_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_lower_bound_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_lower_bound_logits : Cert.Pre_finite_lower_bound_logits.Facts),
    quiescent_Kernel (hKernel := hKernel)
    ∧ quiescent_KernelIdeal (hKernelIdeal := hKernelIdeal)
    ∧ quiescent_KernelIdeal_pre_finite_lower_bound_logits (hKernelIdeal := hKernelIdeal) (hPre_finite_lower_bound_logits := hPre_finite_lower_bound_logits)
    ∧ quiescent_ReferenceIdeal (hReferenceIdeal := hReferenceIdeal)
    ∧ quiescent_ReferenceIdeal_pre_finite_lower_bound_logits (hReferenceIdeal := hReferenceIdeal) (hPre_finite_lower_bound_logits := hPre_finite_lower_bound_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_lower_bound_logits (hKernelIdeal := hKernelIdeal) (hReferenceIdeal := hReferenceIdeal) (hPre_finite_lower_bound_logits := hPre_finite_lower_bound_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_lower_bound_logits.lean ====
abbrev S16384x16384 : Shape := ⟨2, ![16384, 16384]⟩
abbrev S2x2048 : Shape := ⟨2, ![2, 2048]⟩
abbrev S1x2048 : Shape := ⟨2, ![1, 2048]⟩
abbrev S16x128x128 : Shape := ⟨3, ![16, 128, 128]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel

variable [Facts]

def fn {F : FTy → Type} [FloatOps F] (main_arg0 : FVec F S16384x16384 .bf16) (main_arg1 : FVec F S2x2048 .f32) (main_arg2 : FVec F S1x2048 .f32) (main_arg3 : FVec F S16x128x128 .f32) : IVec S_ 1 :=
  let main_v0 : FVec F S2x2048 .f32 := Host.absf main_arg1
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  let main_c : IVec S_ 1 := constantI S_ 1 1#1
  let main_v3 : IVec S_ 1 := (fun x v => Host.reduce IntOp.andi x v reducesTo_S2x2048_S_d0_1 h_S_) main_v2 main_c
  main_v3
-- ==== Kernel.lean ====
abbrev S16384x16384 : Shape := ⟨2, ![16384, 16384]⟩
abbrev S2x2048 : Shape := ⟨2, ![2, 2048]⟩
abbrev S1x2048 : Shape := ⟨2, ![1, 2048]⟩
abbrev S16x128x128 : Shape := ⟨3, ![16, 128, 128]⟩
abbrev S_ : Shape := ⟨0, ![]⟩
abbrev S2048 : Shape := ⟨1, ![2048]⟩
abbrev S16384x2048 : Shape := ⟨2, ![16384, 2048]⟩
abbrev S256x2048 : Shape := ⟨2, ![256, 2048]⟩
abbrev S64x128 : Shape := ⟨2, ![64, 128]⟩
abbrev S64x64 : Shape := ⟨2, ![64, 64]⟩
abbrev S1x128 : Shape := ⟨2, ![1, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩

abbrev nBuf : Space → Nat
  | .hbm => 28
  | .vmem => 15
  | .smem => 0
  | _ => 0

abbrev bufTy : (tb : Table) → Fin (tcTables nBuf tb) → BufTy
  | .hbm, ⟨0, _⟩ => ⟨S16384x16384, .bf16⟩
  | .hbm, ⟨1, _⟩ => ⟨S2x2048, .f32⟩
  | .hbm, ⟨2, _⟩ => ⟨S1x2048, .f32⟩
  | .hbm, ⟨3, _⟩ => ⟨S16x128x128, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S16384x2048, .bf16⟩
  | .hbm, ⟨27, _⟩ => ⟨S16x128x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S16x128x128, .f32⟩
  | .local _ .vmem, ⟨11, _⟩ => ⟨S256x2048, .bf16⟩
  | .local _ .vmem, ⟨12, _⟩ => ⟨S256x2048, .bf16⟩
  | .local _ .vmem, ⟨13, _⟩ => ⟨S16x128x128, .f32⟩
  | .local _ .vmem, ⟨14, _⟩ => ⟨S16x128x128, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c4_i32 : BitVec 32 := 4#32
  let v6 : BitVec 32 := Scalar.addi c0_i32_1 c4_i32
  let c1_i32 : BitVec 32 := 1#32
  ⟨c0_i32_1, v6, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  v9
def k0_off1 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v15 : Index := Scalar.indexCast v10
  let c0_10 : Index := 0#32
  ![v15.toNat, 0]
def k0_off2 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v539 : Index := Scalar.indexCast v10
  let c128_163 : Index := 128#32
  ![v539.toNat, 128]
def k0_off3 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v1063 : Index := Scalar.indexCast v10
  let c256_324 : Index := 256#32
  ![v1063.toNat, 256]
def k0_off4 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v1587 : Index := Scalar.indexCast v10
  let c384_485 : Index := 384#32
  ![v1587.toNat, 384]
def k0_off5 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v2111 : Index := Scalar.indexCast v10
  let c512_646 : Index := 512#32
  ![v2111.toNat, 512]
def k0_off6 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v2635 : Index := Scalar.indexCast v10
  let c640_807 : Index := 640#32
  ![v2635.toNat, 640]
def k0_off7 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v3159 : Index := Scalar.indexCast v10
  let c768_968 : Index := 768#32
  ![v3159.toNat, 768]
def k0_off8 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v3683 : Index := Scalar.indexCast v10
  let c896_1129 : Index := 896#32
  ![v3683.toNat, 896]
def k0_off9 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v4207 : Index := Scalar.indexCast v10
  let c1024_1290 : Index := 1024#32
  ![v4207.toNat, 1024]
def k0_off10 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v4731 : Index := Scalar.indexCast v10
  let c1152_1451 : Index := 1152#32
  ![v4731.toNat, 1152]
def k0_off11 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v5255 : Index := Scalar.indexCast v10
  let c1280_1612 : Index := 1280#32
  ![v5255.toNat, 1280]
def k0_off12 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v5779 : Index := Scalar.indexCast v10
  let c1408_1773 : Index := 1408#32
  ![v5779.toNat, 1408]
def k0_off13 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v6303 : Index := Scalar.indexCast v10
  let c1536_1934 : Index := 1536#32
  ![v6303.toNat, 1536]
def k0_off14 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v6827 : Index := Scalar.indexCast v10
  let c1664_2095 : Index := 1664#32
  ![v6827.toNat, 1664]
def k0_off15 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v7351 : Index := Scalar.indexCast v10
  let c1792_2256 : Index := 1792#32
  ![v7351.toNat, 1792]
def k0_off16 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v7875 : Index := Scalar.indexCast v10
  let c1920_2417 : Index := 1920#32
  ![v7875.toNat, 1920]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S16384x16384 : Shape := ⟨2, ![16384, 16384]⟩
abbrev S2x2048 : Shape := ⟨2, ![2, 2048]⟩
abbrev S1x2048 : Shape := ⟨2, ![1, 2048]⟩
abbrev S16x128x128 : Shape := ⟨3, ![16, 128, 128]⟩
abbrev S_ : Shape := ⟨0, ![]⟩
abbrev S2048 : Shape := ⟨1, ![2048]⟩
abbrev S16384x2048 : Shape := ⟨2, ![16384, 2048]⟩
abbrev S4x4096x2048 : Shape := ⟨3, ![4, 4096, 2048]⟩
abbrev S1x1x2048 : Shape := ⟨3, ![1, 1, 2048]⟩
abbrev S4x64x64x16x128 : Shape := ⟨5, ![4, 64, 64, 16, 128]⟩
abbrev S64x4x16x64x128 : Shape := ⟨5, ![64, 4, 16, 64, 128]⟩
abbrev S64x64 : Shape := ⟨2, ![64, 64]⟩
abbrev S1x16x128x128 : Shape := ⟨4, ![1, 16, 128, 128]⟩
abbrev S4x16x128x128 : Shape := ⟨4, ![4, 16, 128, 128]⟩
abbrev S1x4x16x64x128 : Shape := ⟨5, ![1, 4, 16, 64, 128]⟩
abbrev S4x16x64x128 : Shape := ⟨4, ![4, 16, 64, 128]⟩
abbrev S4x16x64x1x128 : Shape := ⟨5, ![4, 16, 64, 1, 128]⟩
abbrev S4x16x1x64x128 : Shape := ⟨5, ![4, 16, 1, 64, 128]⟩
abbrev S4x16x64x64x128 : Shape := ⟨5, ![4, 16, 64, 64, 128]⟩
abbrev S64x64x1 : Shape := ⟨3, ![64, 64, 1]⟩
abbrev S4x16x64x64 : Shape := ⟨4, ![4, 16, 64, 64]⟩
abbrev S4x16x1x128 : Shape := ⟨4, ![4, 16, 1, 128]⟩
abbrev S4x16x128 : Shape := ⟨3, ![4, 16, 128]⟩
abbrev S4x16x128x1 : Shape := ⟨4, ![4, 16, 128, 1]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩

abbrev nBuf : Space → Nat
  | .hbm => 204
  | .vmem => 0
  | .smem => 0
  | _ => 0

abbrev hbmTy0_0 (i : Nat) : BufTy := match i % 128 with
  | 0 => ⟨S16384x16384, .bf16⟩
  | 1 => ⟨S2x2048, .f32⟩
  | 2 => ⟨S1x2048, .f32⟩
  | 3 => ⟨S16x128x128, .f32⟩
  | 4 => ⟨S_, .f32⟩
  | 5 => ⟨S2048, .f32⟩
  | 6 => ⟨S_, .f32⟩
  | 7 => ⟨S2048, .f32⟩
  | 8 => ⟨S2048, .f32⟩
  | 9 => ⟨S1x2048, .f32⟩
  | 10 => ⟨S2x2048, .f32⟩
  | 11 => ⟨S2x2048, .f32⟩
  | 12 => ⟨S2x2048, .f32⟩
  | 13 => ⟨S_, .f32⟩
  | 14 => ⟨S2048, .f32⟩
  | 15 => ⟨S1x2048, .f32⟩
  | 16 => ⟨S2x2048, .f32⟩
  | 17 => ⟨S2x2048, .f32⟩
  | 18 => ⟨S_, .f32⟩
  | 19 => ⟨S_, .f32⟩
  | 20 => ⟨S2x2048, .f32⟩
  | 21 => ⟨S1x2048, .f32⟩
  | 22 => ⟨S2048, .f32⟩
  | 23 => ⟨S16384x2048, .bf16⟩
  | 24 => ⟨S16384x2048, .f32⟩
  | 25 => ⟨S4x4096x2048, .f32⟩
  | 26 => ⟨S16384x2048, .bf16⟩
  | 27 => ⟨S16384x2048, .f32⟩
  | 28 => ⟨S4x4096x2048, .f32⟩
  | 29 => ⟨S16384x2048, .bf16⟩
  | 30 => ⟨S16384x2048, .f32⟩
  | 31 => ⟨S4x4096x2048, .f32⟩
  | 32 => ⟨S_, .f32⟩
  | 33 => ⟨S2048, .f32⟩
  | 34 => ⟨S2048, .f32⟩
  | 35 => ⟨S4x4096x2048, .f32⟩
  | 36 => ⟨S4x4096x2048, .f32⟩
  | 37 => ⟨S_, .f32⟩
  | 38 => ⟨S4x4096x2048, .f32⟩
  | 39 => ⟨S4x4096x2048, .f32⟩
  | 40 => ⟨S_, .f32⟩
  | 41 => ⟨S4x4096x2048, .f32⟩
  | 42 => ⟨S4x4096x2048, .f32⟩
  | 43 => ⟨S1x1x2048, .f32⟩
  | 44 => ⟨S4x4096x2048, .f32⟩
  | 45 => ⟨S4x4096x2048, .f32⟩
  | 46 => ⟨S1x1x2048, .f32⟩
  | 47 => ⟨S4x4096x2048, .f32⟩
  | 48 => ⟨S4x4096x2048, .f32⟩
  | 49 => ⟨S4x4096x2048, .f32⟩
  | 50 => ⟨S_, .f32⟩
  | 51 => ⟨S4x4096x2048, .f32⟩
  | 52 => ⟨S4x4096x2048, .f32⟩
  | 53 => ⟨S4x4096x2048, .f32⟩
  | 54 => ⟨S4x4096x2048, .f32⟩
  | 55 => ⟨S_, .f32⟩
  | 56 => ⟨S4x4096x2048, .f32⟩
  | 57 => ⟨S4x4096x2048, .f32⟩
  | 58 => ⟨S_, .f32⟩
  | 59 => ⟨S4x4096x2048, .f32⟩
  | 60 => ⟨S4x4096x2048, .f32⟩
  | 61 => ⟨S4x4096x2048, .f32⟩
  | 62 => ⟨S4x64x64x16x128, .f32⟩
  | 63 => ⟨S64x4x16x64x128, .f32⟩
  | 64 => ⟨S4x64x64x16x128, .f32⟩
  | 65 => ⟨S64x4x16x64x128, .f32⟩
  | 66 => ⟨S4x64x64x16x128, .f32⟩
  | 67 => ⟨S64x4x16x64x128, .f32⟩
  | 68 => ⟨S4x64x64x16x128, .f32⟩
  | 69 => ⟨S64x4x16x64x128, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S16x128x128, .f32⟩
  | 82 => ⟨S1x16x128x128, .f32⟩
  | 83 => ⟨S4x16x128x128, .f32⟩
  | 84 => ⟨S_, .f32⟩
  | 85 => ⟨S64x4x16x64x128, .f32⟩
  | 86 => ⟨S_, .i32⟩
  | 87 => ⟨S64x4x16x64x128, .f32⟩
  | 88 => ⟨S64x4x16x64x128, .f32⟩
  | 89 => ⟨S64x4x16x64x128, .f32⟩
  | 90 => ⟨S64x4x16x64x128, .f32⟩
  | 91 => ⟨S64x64, .i1⟩
  | 92 => ⟨S_, .i32⟩
  | 93 => ⟨S4x16x128x128, .f32⟩
  | 94 => ⟨S64x4x16x64x128, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1x4x16x64x128, .f32⟩
  | 102 => ⟨S4x16x64x128, .f32⟩
  | 103 => ⟨S_, .i32⟩
  | 104 => ⟨S_, .i32⟩
  | 105 => ⟨S_, .i32⟩
  | 106 => ⟨S_, .i32⟩
  | 107 => ⟨S1x4x16x64x128, .f32⟩
  | 108 => ⟨S4x16x64x128, .f32⟩
  | 109 => ⟨S_, .i32⟩
  | 110 => ⟨S_, .i32⟩
  | 111 => ⟨S_, .i32⟩
  | 112 => ⟨S_, .i32⟩
  | 113 => ⟨S1x4x16x64x128, .f32⟩
  | 114 => ⟨S4x16x64x128, .f32⟩
  | 115 => ⟨S_, .i32⟩
  | 116 => ⟨S_, .i32⟩
  | 117 => ⟨S_, .i32⟩
  | 118 => ⟨S_, .i32⟩
  | 119 => ⟨S1x4x16x64x128, .f32⟩
  | 120 => ⟨S4x16x64x128, .f32⟩
  | 121 => ⟨S_, .f32⟩
  | 122 => ⟨S_, .f32⟩
  | 123 => ⟨S4x16x64x128, .f32⟩
  | 124 => ⟨S4x16x64x1x128, .f32⟩
  | 125 => ⟨S4x16x1x64x128, .f32⟩
  | 126 => ⟨S4x16x64x64x128, .f32⟩
  | 127 => ⟨S4x16x64x64x128, .f32⟩
  | _ => ⟨S16384x16384, .bf16⟩

abbrev hbmTy0_1 (i : Nat) : BufTy := match i % 128 with
  | 0 => ⟨S4x16x64x64x128, .f32⟩
  | 1 => ⟨S64x64x1, .i1⟩
  | 2 => ⟨S_, .f32⟩
  | 3 => ⟨S_, .f32⟩
  | 4 => ⟨S4x16x64x64x128, .i1⟩
  | 5 => ⟨S4x16x64x64x128, .f32⟩
  | 6 => ⟨S4x16x64x64x128, .f32⟩
  | 7 => ⟨S4x16x64x64x128, .f32⟩
  | 8 => ⟨S4x16x64x1x128, .f32⟩
  | 9 => ⟨S4x16x64x64x128, .f32⟩
  | 10 => ⟨S4x16x64x64x128, .f32⟩
  | 11 => ⟨S4x16x1x64x128, .f32⟩
  | 12 => ⟨S4x16x64x64x128, .f32⟩
  | 13 => ⟨S4x16x64x64x128, .f32⟩
  | 14 => ⟨S_, .f32⟩
  | 15 => ⟨S4x16x64x64, .f32⟩
  | 16 => ⟨S4x16x64x128, .f32⟩
  | 17 => ⟨S4x16x64x128, .f32⟩
  | 18 => ⟨S4x16x64x128, .f32⟩
  | 19 => ⟨S4x16x64x128, .f32⟩
  | 20 => ⟨S4x16x64x128, .f32⟩
  | 21 => ⟨S4x16x1x128, .f32⟩
  | 22 => ⟨S4x16x128, .f32⟩
  | 23 => ⟨S4x16x128, .f32⟩
  | 24 => ⟨S4x16x128x1, .f32⟩
  | 25 => ⟨S4x16x128x128, .f32⟩
  | 26 => ⟨S4x16x128x128, .f32⟩
  | 27 => ⟨S4x16x64x128, .f32⟩
  | 28 => ⟨S4x16x64x128, .f32⟩
  | 29 => ⟨S4x16x64x128, .f32⟩
  | 30 => ⟨S4x16x64x128, .f32⟩
  | 31 => ⟨S4x16x128x128, .f32⟩
  | 32 => ⟨S4x16x128x128, .f32⟩
  | 33 => ⟨S1x4x16x64x128, .f32⟩
  | 34 => ⟨S_, .i32⟩
  | 35 => ⟨S_, .i32⟩
  | 36 => ⟨S_, .i32⟩
  | 37 => ⟨S_, .i32⟩
  | 38 => ⟨S64x4x16x64x128, .f32⟩
  | 39 => ⟨S_, .i32⟩
  | 40 => ⟨S_, .i32⟩
  | 41 => ⟨S4x64x64x16x128, .f32⟩
  | 42 => ⟨S4x4096x16x128, .f32⟩
  | 43 => ⟨S4x4096x16x128, .f32⟩
  | 44 => ⟨S_, .f32⟩
  | 45 => ⟨S4x4096x16, .f32⟩
  | 46 => ⟨S4x4096x16x1, .f32⟩
  | 47 => ⟨S_, .f32⟩
  | 48 => ⟨S4x4096x16x1, .f32⟩
  | 49 => ⟨S4x4096x16x1, .f32⟩
  | 50 => ⟨S_, .f32⟩
  | 51 => ⟨S4x4096x16x1, .f32⟩
  | 52 => ⟨S4x4096x16x1, .f32⟩
  | 53 => ⟨S4x4096x16x1, .f32⟩
  | 54 => ⟨S4x4096x16x128, .f32⟩
  | 55 => ⟨S4x4096x16x128, .f32⟩
  | 56 => ⟨S4x4096x2048, .f32⟩
  | 57 => ⟨S2048, .f32⟩
  | 58 => ⟨S1x1x2048, .f32⟩
  | 59 => ⟨S4x4096x2048, .f32⟩
  | 60 => ⟨S4x4096x2048, .f32⟩
  | 61 => ⟨S16384x2048, .bf16⟩
  | 62 => ⟨S16384x2048, .f32⟩
  | 63 => ⟨S4x4096x2048, .f32⟩
  | 64 => ⟨S4x4096x2048, .f32⟩
  | 65 => ⟨S4x4096x2048, .f32⟩
  | 66 => ⟨S_, .f32⟩
  | 67 => ⟨S4x4096x2048, .f32⟩
  | 68 => ⟨S4x4096x2048, .f32⟩
  | 69 => ⟨S_, .f32⟩
  | 70 => ⟨S4x4096x2048, .f32⟩
  | 71 => ⟨S4x4096x2048, .f32⟩
  | 72 => ⟨S4x4096x2048, .f32⟩
  | 73 => ⟨S4x4096x2048, .f32⟩
  | 74 => ⟨S4x4096x2048, .bf16⟩
  | 75 => ⟨S16384x2048, .bf16⟩
  | _ => ⟨S16384x16384, .bf16⟩

abbrev hbmTy (i : Nat) : BufTy := match i / 128 with
  | 0 => hbmTy0_0 i
  | 1 => hbmTy0_1 i
  | _ => ⟨S16384x16384, .bf16⟩

abbrev bufTy : (tb : Table) → Fin (tcTables nBuf tb) → BufTy
  | .hbm, ⟨i, _⟩ => hbmTy i
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_0 : Ref sig .tc := ⟨.hbm, 78, rfl⟩
abbrev main_call2_v5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_c_7 : Ref sig .tc := ⟨.hbm, 86, rfl⟩
abbrev main_v55_0 : Ref sig .tc := ⟨.hbm, 87, rfl⟩
abbrev main_v55_1 : Ref sig .tc := ⟨.hbm, 88, rfl⟩
abbrev main_v55_2 : Ref sig .tc := ⟨.hbm, 89, rfl⟩
abbrev main_v55_3 : Ref sig .tc := ⟨.hbm, 90, rfl⟩
abbrev main_v55_4 : Ref sig .tc := ⟨.hbm, 91, rfl⟩
abbrev main_v55_5 : Ref sig .tc := ⟨.hbm, 92, rfl⟩
abbrev main_v55_6 : Ref sig .tc := ⟨.hbm, 93, rfl⟩
abbrev main_v55_7 : Ref sig .tc := ⟨.hbm, 94, rfl⟩
abbrev main_while0c_c_18 : Ref sig .tc := ⟨.hbm, 95, rfl⟩
abbrev main_while0c_v80 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_call3_c_1 : Ref sig .tc := ⟨.hbm, 99, rfl⟩
abbrev main_while0b_call3_c_2 : Ref sig .tc := ⟨.hbm, 100, rfl⟩
abbrev main_while0b_call3_v0 : Ref sig .tc := ⟨.hbm, 101, rfl⟩
abbrev main_while0b_v80 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v81 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_v0 : Ref sig .tc := ⟨.hbm, 113, rfl⟩
abbrev main_while0b_v82 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_call6_v0 : Ref sig .tc := ⟨.hbm, 119, rfl⟩
abbrev main_while0b_v83 : Ref sig .tc := ⟨.hbm, 120, rfl⟩
abbrev main_while0b_call7_call0_cst : Ref sig .tc := ⟨.hbm, 121, rfl⟩
abbrev main_while0b_call7_call0_v0 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_cst_18 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_v2 : Ref sig .tc := ⟨.hbm, 133, rfl⟩
abbrev main_while0b_v91 : Ref sig .tc := ⟨.hbm, 134, rfl⟩
abbrev main_while0b_v92 : Ref sig .tc := ⟨.hbm, 135, rfl⟩
abbrev main_while0b_v93 : Ref sig .tc := ⟨.hbm, 136, rfl⟩
abbrev main_while0b_v94 : Ref sig .tc := ⟨.hbm, 137, rfl⟩
abbrev main_while0b_v95 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_cst_19 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_v104 : Ref sig .tc := ⟨.hbm, 148, rfl⟩
abbrev main_while0b_v105 : Ref sig .tc := ⟨.hbm, 149, rfl⟩
abbrev main_while0b_v106 : Ref sig .tc := ⟨.hbm, 150, rfl⟩
abbrev main_while0b_v107 : Ref sig .tc := ⟨.hbm, 151, rfl⟩
abbrev main_while0b_v108 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_v114 : Ref sig .tc := ⟨.hbm, 158, rfl⟩
abbrev main_while0b_v115 : Ref sig .tc := ⟨.hbm, 159, rfl⟩
abbrev main_while0b_v116 : Ref sig .tc := ⟨.hbm, 160, rfl⟩
abbrev main_while0b_call9_v0 : Ref sig .tc := ⟨.hbm, 161, rfl⟩
abbrev main_while0b_call9_c : Ref sig .tc := ⟨.hbm, 162, rfl⟩
abbrev main_while0b_call9_c_0 : Ref sig .tc := ⟨.hbm, 163, rfl⟩
abbrev main_while0b_call9_c_1 : Ref sig .tc := ⟨.hbm, 164, rfl⟩
abbrev main_while0b_call9_c_2 : Ref sig .tc := ⟨.hbm, 165, rfl⟩
abbrev main_while0b_v117 : Ref sig .tc := ⟨.hbm, 166, rfl⟩
abbrev main_while0b_c_20 : Ref sig .tc := ⟨.hbm, 167, rfl⟩
abbrev main_while0b_v118 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_cst_8 : Ref sig .tc := ⟨.hbm, 172, rfl⟩
abbrev main_v59 : Ref sig .tc := ⟨.hbm, 173, rfl⟩
abbrev main_v60 : Ref sig .tc := ⟨.hbm, 174, rfl⟩
abbrev main_cst_9 : Ref sig .tc := ⟨.hbm, 175, rfl⟩
abbrev main_v61 : Ref sig .tc := ⟨.hbm, 176, rfl⟩
abbrev main_v62 : Ref sig .tc := ⟨.hbm, 177, rfl⟩
abbrev main_cst_10 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_v75 : Ref sig .tc := ⟨.hbm, 191, rfl⟩
abbrev main_call10_v0 : Ref sig .tc := ⟨.hbm, 192, rfl⟩
abbrev main_call10_v1 : Ref sig .tc := ⟨.hbm, 193, rfl⟩
abbrev main_call10_cst : Ref sig .tc := ⟨.hbm, 194, rfl⟩
abbrev main_call10_v2 : Ref sig .tc := ⟨.hbm, 195, rfl⟩
abbrev main_call10_v3 : Ref sig .tc := ⟨.hbm, 196, rfl⟩
abbrev main_call10_cst_0 : Ref sig .tc := ⟨.hbm, 197, rfl⟩
abbrev main_call10_v4 : Ref sig .tc := ⟨.hbm, 198, rfl⟩
abbrev main_call10_v5 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x2048 : Shape := ⟨3, ![4, 4096, 2048]⟩
abbrev S1x2048 : Shape := ⟨2, ![1, 2048]⟩
abbrev S1x2048x16384 : Shape := ⟨3, ![1, 2048, 16384]⟩
abbrev S16384x2048 : Shape := ⟨2, ![16384, 2048]⟩
abbrev S2048 : Shape := ⟨1, ![2048]⟩
abbrev S2048x16384 : Shape := ⟨2, ![2048, 16384]⟩
abbrev S16384x16384 : Shape := ⟨2, ![16384, 16384]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x16384, .f32⟩
  | .hbm, ⟨3, _⟩ => ⟨S16384x2048, .f32⟩
  | .hbm, ⟨4, _⟩ => ⟨S2048, .f32⟩
  | .hbm, ⟨5, _⟩ => ⟨S2048x16384, .f32⟩
  | .hbm, ⟨6, _⟩ => ⟨S2048x16384, .bf16⟩
  | .hbm, ⟨7, _⟩ => ⟨S1x2048, .f32⟩
  | .hbm, ⟨8, _⟩ => ⟨S16384x16384, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S1x2048 : Shape := ⟨2, ![1, 2048]⟩
abbrev S1x2048x16384 : Shape := ⟨3, ![1, 2048, 16384]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x16384 : Shape := ⟨2, ![2048, 16384]⟩
abbrev S4x4096x16384 : Shape := ⟨3, ![4, 4096, 16384]⟩
abbrev S16384x16384 : Shape := ⟨2, ![16384, 16384]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x16384, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x16384, .f32⟩
  | .hbm, ⟨21, _⟩ => ⟨S4x4096x16384, .f32⟩
  | .hbm, ⟨22, _⟩ => ⟨S4x4096x16384, .bf16⟩
  | .hbm, ⟨23, _⟩ => ⟨S16384x16384, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S16384x2048 : Shape := ⟨2, ![16384, 2048]⟩
abbrev S16384x16384 : Shape := ⟨2, ![16384, 16384]⟩
abbrev S1x2048x2048 : Shape := ⟨3, ![1, 2048, 2048]⟩
abbrev S2048x2048 : Shape := ⟨2, ![2048, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x16384, .bf16⟩
  | .hbm, ⟨3, _⟩ => ⟨S1x2048x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .bf16⟩
  | .hbm, ⟨9, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2048 : Shape := ⟨2, ![16384, 2048]⟩
abbrev S16384x16384 : Shape := ⟨2, ![16384, 16384]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x16384, .bf16⟩
  | .hbm, ⟨3, _⟩ => ⟨S1x2048x2048, .f32⟩
  | .hbm, ⟨4, _⟩ => ⟨S1x2048x2048, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S2048x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S16384x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S2048x16384 : Shape := ⟨2, ![2048, 16384]⟩
abbrev S512x2048 : Shape := ⟨2, ![512, 2048]⟩
abbrev S2048x1024 : Shape := ⟨2, ![2048, 1024]⟩
abbrev S512x1024 : Shape := ⟨2, ![512, 1024]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩
abbrev S2048x16384 : Shape := ⟨2, ![2048, 16384]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x2048, .f32⟩
  | .hbm, ⟨21, _⟩ => ⟨S16384x2048, .f32⟩
  | .hbm, ⟨22, _⟩ => ⟨S2048x16384, .f32⟩
  | .hbm, ⟨23, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S16x2048 : Shape := ⟨2, ![16, 2048]⟩
abbrev S1x2048 : Shape := ⟨2, ![1, 2048]⟩
abbrev S1x2048x16384 : Shape := ⟨3, ![1, 2048, 16384]⟩
abbrev S2048 : Shape := ⟨1, ![2048]⟩
abbrev S2048x16384 : Shape := ⟨2, ![2048, 16384]⟩
abbrev S16x16384 : Shape := ⟨2, ![16, 16384]⟩
abbrev S2048x1024 : Shape := ⟨2, ![2048, 1024]⟩
abbrev S16x1024 : Shape := ⟨2, ![16, 1024]⟩
abbrev S16 : Shape := ⟨1, ![16]⟩
abbrev S16x1 : Shape := ⟨2, ![16, 1]⟩

abbrev nBuf : Space → Nat
  | .hbm => 8
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x2048x16384, .f32⟩
  | .hbm, ⟨3, _⟩ => ⟨S2048, .f32⟩
  | .hbm, ⟨4, _⟩ => ⟨S2048x16384, .f32⟩
  | .hbm, ⟨5, _⟩ => ⟨S2048x16384, .bf16⟩
  | .hbm, ⟨6, _⟩ => ⟨S1x2048, .f32⟩
  | .hbm, ⟨7, _⟩ => ⟨S16x16384, .bf16⟩
  | .local _ .vmem, ⟨0, _⟩ => ⟨S16x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S16x1024, .bf16⟩
  | .local _ .vmem, ⟨5, _⟩ => ⟨S16x1024, .bf16⟩
  | .local _ .vmem, ⟨6, _⟩ => ⟨S16x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16x2048 : Shape := ⟨2, ![16, 2048]⟩
abbrev S1x2048 : Shape := ⟨2, ![1, 2048]⟩
abbrev S1x2048x16384 : Shape := ⟨3, ![1, 2048, 16384]⟩
abbrev S2048 : Shape := ⟨1, ![2048]⟩
abbrev S_ : Shape := ⟨0, ![]⟩
abbrev S16 : Shape := ⟨1, ![16]⟩
abbrev S16x1 : Shape := ⟨2, ![16, 1]⟩
abbrev S2048x16384 : Shape := ⟨2, ![2048, 16384]⟩
abbrev S16x16384 : Shape := ⟨2, ![16, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x2048x16384, .f32⟩
  | .hbm, ⟨3, _⟩ => ⟨S2048, .f32⟩
  | .hbm, ⟨4, _⟩ => ⟨S16x2048, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S_, .f32⟩
  | .hbm, ⟨12, _⟩ => ⟨S16x1, .f32⟩
  | .hbm, ⟨13, _⟩ => ⟨S16x1, .f32⟩
  | .hbm, ⟨14, _⟩ => ⟨S16x1, .f32⟩
  | .hbm, ⟨15, _⟩ => ⟨S16x2048, .f32⟩
  | .hbm, ⟨16, _⟩ => ⟨S16x2048, .f32⟩
  | .hbm, ⟨17, _⟩ => ⟨S1x2048, .f32⟩
  | .hbm, ⟨18, _⟩ => ⟨S16x2048, .f32⟩
  | .hbm, ⟨19, _⟩ => ⟨S16x2048, .f32⟩
  | .hbm, ⟨20, _⟩ => ⟨S2048x16384, .f32⟩
  | .hbm, ⟨21, _⟩ => ⟨S16x16384, .f32⟩
  | .hbm, ⟨22, _⟩ => ⟨S16x16384, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Head.lean ====
/- What one head of one chunk computes, as functions of the blocks it loads: the forget gate, the
   scores built level by level, the output rows and the next state. Every one of the sixteen heads
   of the kernel's loop body runs these same functions on its own columns. -/
module

public import proofs.«01_k».proof.Proof.Gen.KernelIdeal.Skeleton

@[expose] public section

noncomputable section

namespace Cert.KernelIdeal.Head

open Cert.KernelIdeal Cert.KernelIdeal.Gen Idealize.ShloMosaic

variable {F : FTy → Type} [FloatOps F]

/-- The forget gate `lb + (1 - lb) · σ(fl)` of a chunk. -/
def gate (lb : Vec F S1x128 .f32) (fl : Vec F S64x128 .bf16) : FVec F S64x128 .f32 :=
  addf (broadcastTo S64x128 (shapeCast S1x128 lb shapeCasts_S1x128_S1x128) broadcasts_S1x128_S64x128)
    (mulf (broadcastTo S64x128
        (subf (broadcast S1x128 (Scalar.ofBits .f32 0x3F800000#32)) (shapeCast S1x128 lb shapeCasts_S1x128_S1x128))
        broadcasts_S1x128_S64x128)
      (logistic (extf .f32 fl bitsLt_bf16_f32)))

/-- Its logarithm, the decay of one row. -/
def logGate (lb : Vec F S1x128 .f32) (fl : Vec F S64x128 .bf16) : FVec F S64x128 .f32 := log (gate lb fl)

/-- The key `1 - gate`. -/
def key (lb : Vec F S1x128 .f32) (fl : Vec F S64x128 .bf16) : FVec F S64x128 .f32 :=
  subf (broadcast S64x128 (Scalar.ofBits .f32 0x3F800000#32)) (gate lb fl)

/-- `x · σ(x)`. -/
def silu (x : Vec F S64x128 .bf16) : FVec F S64x128 .f32 :=
  mulf (extf .f32 x bitsLt_bf16_f32) (logistic (extf .f32 x bitsLt_bf16_f32))

/-- The rows whose number has bit `j` set. -/
def upper (v3 : IVec S64x128 32) (j : ℕ) : IVec S64x128 1 :=
  cmpi .ne (andi v3 (broadcast S64x128 (BitVec.ofNat 32 (2 ^ j)))) (broadcast S64x128 0#32)

/-- Division by `d` rounded down, entry by entry. -/
def floorDiv (v : IVec S64x64 32) (d : BitVec 32) : IVec S64x64 32 :=
  select
    (andi
      (cmpi .ne
        (subi (extui 32 (cmpi .sgt v (broadcast S64x64 0#32)) natLt_1_32)
          (extui 32 (cmpi .slt v (broadcast S64x64 0#32)) natLt_1_32))
        (broadcast S64x64 (Scalar.subi (Scalar.extui (Scalar.cmpi .sgt d 0#32)) (Scalar.extui (Scalar.cmpi .slt d 0#32)))))
      (cmpi .ne (remsi v (broadcast S64x64 d)) (broadcast S64x64 0#32)))
    (subi (divsi v (broadcast S64x64 d)) (broadcast S64x64 1#32))
    (divsi v (broadcast S64x64 d))

/-- Row and column of a score lie in one block of `2 ^ (j + 1)`. -/
def sameBlock (v4 v5 : IVec S64x64 32) (j : ℕ) : IVec S64x64 1 :=
  cmpi .eq (floorDiv v4 (BitVec.ofNat 32 (2 ^ (j + 1)))) (floorDiv v5 (BitVec.ofNat 32 (2 ^ (j + 1))))

/-- The total of a row's block of `2 ^ j` rows: the total of its half, and that of the other half. -/
def total (v3 : IVec S64x128 32) (lf : FVec F S64x128 .f32) : ℕ → FVec F S64x128 .f32
  | 0 => lf
  | j + 1 => addf (total v3 lf j) (select (upper v3 j)
      (dynamicRotate 0 (BitVec.ofNat 32 (2 ^ j)) none (total v3 lf j) rotates_S64x128_d0)
      (dynamicRotate 0 (BitVec.ofNat 32 (64 - 2 ^ j)) none (total v3 lf j) rotates_S64x128_d0))

/-- The sum up to a row within its block of `2 ^ j` rows. -/
def prefixSum (v3 : IVec S64x128 32) (lf : FVec F S64x128 .f32) : ℕ → FVec F S64x128 .f32
  | 0 => lf
  | j + 1 => addf (prefixSum v3 lf j) (select (upper v3 j)
      (dynamicRotate 0 (BitVec.ofNat 32 (2 ^ j)) none (total v3 lf j) rotates_S64x128_d0)
      (broadcast S64x128 (Scalar.ofBits .f32 0x00000000#32)))

/-- The scores between the upper rows of a block of `2 ^ (j + 1)` and its lower rows, before the mask. -/
def levelScore (v3 : IVec S64x128 32) (qs kk lf : FVec F S64x128 .f32) (j : ℕ) : FVec F S64x64 .f32 :=
  matmul dot_S64x128_S64x128_S64x64_1_1_0_0_n_n none
    (truncf .bf16 (select (upper v3 j) (mulf qs (exp (prefixSum v3 lf j)))
      (broadcast S64x128 (Scalar.ofBits .f32 0x00000000#32))) bitsLt_bf16_f32)
    (truncf .bf16 (select (upper v3 j) (broadcast S64x128 (Scalar.ofBits .f32 0x00000000#32))
      (mulf kk (exp (subf (total v3 lf j) (prefixSum v3 lf j))))) bitsLt_bf16_f32)
    (constant S64x64 .f32 0x00000000#32)

/-- The scores within blocks of `2 ^ j` rows: the diagonal, then one level after the other. -/
def scores (v3 : IVec S64x128 32) (v4 v5 : IVec S64x64 32) (qs kk lf : FVec F S64x128 .f32) : ℕ → FVec F S64x64 .f32
  | 0 => select (cmpi .eq v4 v5)
      (matmul dot_S64x128_S64x128_S64x64_1_1_0_0_n_n none (truncf .bf16 qs bitsLt_bf16_f32)
        (truncf .bf16 kk bitsLt_bf16_f32) (constant S64x64 .f32 0x00000000#32))
      (broadcast S64x64 (Scalar.ofBits .f32 0x00000000#32))
  | j + 1 => addf (scores v3 v4 v5 qs kk lf j) (select (sameBlock v4 v5 j) (levelScore v3 qs kk lf j)
      (broadcast S64x64 (Scalar.ofBits .f32 0x00000000#32)))

/-- The chunk's output rows before normalisation: scores times values, and what the state gives. -/
def rows (v3 : IVec S64x128 32) (v4 v5 : IVec S64x64 32) (qs kk lf : FVec F S64x128 .f32)
    (v : Vec F S64x128 .bf16) (st : Vec F S1x128x128 .f32) : FVec F S64x128 .f32 :=
  addf
    (matmul dot_S64x64_S64x128_S64x128_1_0_0_1_n_n none (truncf .bf16 (scores v3 v4 v5 qs kk lf 6) bitsLt_bf16_f32) v
      (constant S64x128 .f32 0x00000000#32))
    (matmul dot_S64x128_S128x128_S64x128_1_1_0_0_n_n none
      (truncf .bf16 (mulf qs (exp (prefixSum v3 lf 6))) bitsLt_bf16_f32)
      (truncf .bf16 (shapeCast S128x128 st shapeCasts_S1x128x128_S128x128) bitsLt_bf16_f32)
      (constant S64x128 .f32 0x00000000#32))

/-- The state after the chunk. -/
def nextState (v3 : IVec S64x128 32) (kk lf : FVec F S64x128 .f32) (v : Vec F S64x128 .bf16)
    (st : Vec F S1x128x128 .f32) : FVec F S1x128x128 .f32 :=
  shapeCast S1x128x128
    (addf
      (mulf (shapeCast S128x128 st shapeCasts_S1x128x128_S128x128)
        (broadcastTo S128x128 (exp (extractStridedSlice S1x128 ![0, 0] (total v3 lf 6) slices_S64x128_o0_0_S1x128))
          broadcasts_S1x128_S128x128))
      (matmul dot_S64x128_S64x128_S128x128_0_0_1_1_n_n none v
        (truncf .bf16 (mulf kk (exp (subf (total v3 lf 6) (prefixSum v3 lf 6)))) bitsLt_bf16_f32)
        (constant S128x128 .f32 0x00000000#32)))
    shapeCasts_S128x128_S1x128x128

/-- The normalised rows, scaled and gated. -/
def finish (o : FVec F S64x128 .f32) (ng : Vec F S1x128 .f32) (g : Vec F S64x128 .bf16) : FVec F S64x128 .bf16 :=
  truncf .bf16
    (mulf
      (mulf
        (mulf o
          (broadcastTo S64x128
            (rsqrt
              (addf
                (divf
                  (shapeCast S64x1
                    (multiReduction .add [1] S64 (mulf o o) 0x00000000#32 reduces_S64x128_S64 (.inl rfl) rfl)
                    shapeCasts_S64_S64x1)
                  (broadcast S64x1 (Scalar.ofBits .f32 0x43000000#32)))
                (broadcast S64x1 (Scalar.ofBits .f32 0x358637BD#32))))
            broadcasts_S64x1_S64x128))
        (broadcastTo S64x128 (shapeCast S1x128 ng shapeCasts_S1x128_S1x128) broadcasts_S1x128_S64x128))
      (silu g))
    bitsLt_bf16_f32

/-- What a head stores into the output: its rows of the chunk. -/
def outRows (v3 : IVec S64x128 32) (v4 v5 : IVec S64x64 32) (lb : Vec F S1x128 .f32) (fl q v : Vec F S64x128 .bf16)
    (st : Vec F S1x128x128 .f32) (ng : Vec F S1x128 .f32) (g : Vec F S64x128 .bf16) : FVec F S64x128 .bf16 :=
  finish (rows v3 v4 v5 (silu q) (key lb fl) (logGate lb fl) v st) ng g

/-- What a head stores into the carried state. -/
def outState (v3 : IVec S64x128 32) (lb : Vec F S1x128 .f32) (fl v : Vec F S64x128 .bf16)
    (st : Vec F S1x128x128 .f32) : FVec F S1x128x128 .f32 :=
  nextState v3 (key lb fl) (logGate lb fl) v st

end Cert.KernelIdeal.Head

end
-- ==== Proof.Trip.lean ====
/- The two stores of a head in one trip of the kernel's loop, for all sixteen heads: the output rows and the
   next state, as the functions of Head.lean at the head's own columns. -/
module

public import proofs.«01_k».proof.Proof.Gen.KernelIdeal.Loops
public import proofs.«01_k».proof.Proof.Head

@[expose] public section

set_option maxRecDepth 16384
set_option maxHeartbeats 4000000

noncomputable section

namespace Cert.KernelIdeal.Trip

open Cert.KernelIdeal Cert.KernelIdeal.Gen Idealize.ShloMosaic Idealize.ShloMosaic.TcCoe

variable {F : FTy → Type} [FloatOps F]

/-- A head's columns of a row of parameters. -/
abbrev lanes (m : Memref sig .tc .vmem S1x2048 .f32) (X : BufTy.Contents (Elt F) m.view.ty) (l : Fin 2 → ℕ)
    (hl : ∀ a, l a + S1x128.size a ≤ S1x2048.size a) : Vec F S1x128 .f32 :=
  View.readAt (Elt F) m.view (Rect.unit (s := S1x2048) l S1x128.size hl).toLoadRect X

/-- A head's columns of a chunk's rows. -/
abbrev tile (m : Memref sig .tc .vmem S256x2048 .bf16) (X : BufTy.Contents (Elt F) m.view.ty) (o : Fin 2 → ℕ)
    (ho : ∀ a, o a + S64x128.size a ≤ S256x2048.size a) : Vec F S64x128 .bf16 :=
  View.readAt (Elt F) m.view (Rect.unit (s := S256x2048) o S64x128.size ho).toLoadRect X

/-- A head's slab of the carried state. -/
abbrev slab (m : Memref sig .tc .vmem S16x128x128 .f32) (X : BufTy.Contents (Elt F) m.view.ty) (s : Fin 3 → ℕ)
    (hs : ∀ a, s a + S1x128x128.size a ≤ S16x128x128.size a) : Vec F S1x128x128 .f32 :=
  View.readAt (Elt F) m.view (Rect.unit (s := S16x128x128) s S1x128x128.size hs).toLoadRect X

variable (arg2 : Memref sig .tc .vmem S256x2048 .bf16) (arg3 : Memref sig .tc .vmem S256x2048 .bf16)
  (arg4 : Memref sig .tc .vmem S256x2048 .bf16) (arg5 : Memref sig .tc .vmem S256x2048 .bf16)
  (arg6 : Memref sig .tc .vmem S1x2048 .f32) (arg7 : Memref sig .tc .vmem S1x2048 .f32)
  (arg11 : Memref sig .tc .vmem S16x128x128 .f32) (v3 : IVec S64x128 32) (v4 v5 : IVec S64x64 32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (f11 : BufTy.Contents (Elt F) arg11.view.ty)

/-- The store of a head's output rows. -/
def outPiece (o : Fin 2 → ℕ) (ho : ∀ a, o a + S64x128.size a ≤ S256x2048.size a)
    (l : Fin 2 → ℕ) (hl : ∀ a, l a + S1x128.size a ≤ S1x2048.size a)
    (s : Fin 3 → ℕ) (hs : ∀ a, s a + S1x128x128.size a ≤ S16x128x128.size a) : View.Piece (Elt F) S256x2048 .bf16 :=
  ⟨Rect.unit (s := S256x2048) o S64x128.size ho,
    Head.outRows v3 v4 v5 (lanes arg6 X6 l hl) (tile arg3 X3 o ho) (tile arg2 X2 o ho) (tile arg4 X4 o ho)
      (slab arg11 f11 s hs) (lanes arg7 X7 l hl) (tile arg5 X5 o ho)⟩

/-- The store of a head's next state. -/
def statePiece (o : Fin 2 → ℕ) (ho : ∀ a, o a + S64x128.size a ≤ S256x2048.size a)
    (l : Fin 2 → ℕ) (hl : ∀ a, l a + S1x128.size a ≤ S1x2048.size a)
    (s : Fin 3 → ℕ) (hs : ∀ a, s a + S1x128x128.size a ≤ S16x128x128.size a) : View.Piece (Elt F) S16x128x128 .f32 :=
  ⟨Rect.unit (s := S16x128x128) s S1x128x128.size hs,
    Head.outState v3 (lanes arg6 X6 l hl) (tile arg3 X3 o ho) (tile arg4 X4 o ho) (slab arg11 f11 s hs)⟩

variable (𝒱 : Variants) (c : Dev nD) (bd : Option 𝒱.V) (i : grid0.Coords)
  (harg2 : arg2.IsWhole) (harg3 : arg3.IsWhole) (harg4 : arg4.IsWhole) (harg5 : arg5.IsWhole) (harg6 : arg6.IsWhole)
  (harg7 : arg7.IsWhole) (arg8 : Memref sig .tc .vmem S16x128x128 .f32) (harg8 : arg8.IsWhole)
  (arg9 : Memref sig .tc .vmem S256x2048 .bf16) (harg9 : arg9.IsWhole)
  (arg10 : Memref sig .tc .vmem S16x128x128 .f32) (harg10 : arg10.IsWhole) (harg11 : arg11.IsWhole)
  (k : Fin k0_t1_loop.trips) (f9 : BufTy.Contents (Elt F) arg9.view.ty)

/-- A trip's stores into the output. -/
theorem outs :
    (trip_k0_t1 (F := F) 𝒱 c bd i arg2 harg2 arg3 harg3 arg4 harg4 arg5 harg5 arg6 harg6 arg7 harg7 arg8 harg8 arg9 harg9 arg10 harg10 arg11
      harg11 v3 v4 v5 X2 X3 X4 X5 X6 X7 k).1 f9 f11 =
      let out := outPiece arg2 arg3 arg4 arg5 arg6 arg7 arg11 v3 v4 v5 X2 X3 X4 X5 X6 X7 f11
      [out (k0_off16 k) (k0_off16_inb k) ![0, 1920] inb_S1x2048_S1x128_0_1920 ![15, 0, 0]
          inb_S16x128x128_S1x128x128_15_0_0,
        out (k0_off15 k) (k0_off15_inb k) ![0, 1792] inb_S1x2048_S1x128_0_1792 ![14, 0, 0]
          inb_S16x128x128_S1x128x128_14_0_0,
        out (k0_off14 k) (k0_off14_inb k) ![0, 1664] inb_S1x2048_S1x128_0_1664 ![13, 0, 0]
          inb_S16x128x128_S1x128x128_13_0_0,
        out (k0_off13 k) (k0_off13_inb k) ![0, 1536] inb_S1x2048_S1x128_0_1536 ![12, 0, 0]
          inb_S16x128x128_S1x128x128_12_0_0,
        out (k0_off12 k) (k0_off12_inb k) ![0, 1408] inb_S1x2048_S1x128_0_1408 ![11, 0, 0]
          inb_S16x128x128_S1x128x128_11_0_0,
        out (k0_off11 k) (k0_off11_inb k) ![0, 1280] inb_S1x2048_S1x128_0_1280 ![10, 0, 0]
          inb_S16x128x128_S1x128x128_10_0_0,
        out (k0_off10 k) (k0_off10_inb k) ![0, 1152] inb_S1x2048_S1x128_0_1152 ![9, 0, 0]
          inb_S16x128x128_S1x128x128_9_0_0,
        out (k0_off9 k) (k0_off9_inb k) ![0, 1024] inb_S1x2048_S1x128_0_1024 ![8, 0, 0]
          inb_S16x128x128_S1x128x128_8_0_0,
        out (k0_off8 k) (k0_off8_inb k) ![0, 896] inb_S1x2048_S1x128_0_896 ![7, 0, 0]
          inb_S16x128x128_S1x128x128_7_0_0,
        out (k0_off7 k) (k0_off7_inb k) ![0, 768] inb_S1x2048_S1x128_0_768 ![6, 0, 0]
          inb_S16x128x128_S1x128x128_6_0_0,
        out (k0_off6 k) (k0_off6_inb k) ![0, 640] inb_S1x2048_S1x128_0_640 ![5, 0, 0]
          inb_S16x128x128_S1x128x128_5_0_0,
        out (k0_off5 k) (k0_off5_inb k) ![0, 512] inb_S1x2048_S1x128_0_512 ![4, 0, 0]
          inb_S16x128x128_S1x128x128_4_0_0,
        out (k0_off4 k) (k0_off4_inb k) ![0, 384] inb_S1x2048_S1x128_0_384 ![3, 0, 0]
          inb_S16x128x128_S1x128x128_3_0_0,
        out (k0_off3 k) (k0_off3_inb k) ![0, 256] inb_S1x2048_S1x128_0_256 ![2, 0, 0]
          inb_S16x128x128_S1x128x128_2_0_0,
        out (k0_off2 k) (k0_off2_inb k) ![0, 128] inb_S1x2048_S1x128_0_128 ![1, 0, 0]
          inb_S16x128x128_S1x128x128_1_0_0,
        out (k0_off1 k) (k0_off1_inb k) ![0, 0] inb_S1x2048_S1x128_0_0 ![0, 0, 0]
          inb_S16x128x128_S1x128x128_0_0_0] := by
  unfold trip_k0_t1
  rfl

/-- A trip's stores into the carried state. -/
theorem states :
    (trip_k0_t1 (F := F) 𝒱 c bd i arg2 harg2 arg3 harg3 arg4 harg4 arg5 harg5 arg6 harg6 arg7 harg7 arg8 harg8 arg9 harg9 arg10 harg10 arg11
      harg11 v3 v4 v5 X2 X3 X4 X5 X6 X7 k).2.1 f9 f11 =
      let st := statePiece arg3 arg4 arg6 arg11 v3 X3 X4 X6 f11
      [st (k0_off16 k) (k0_off16_inb k) ![0, 1920] inb_S1x2048_S1x128_0_1920 ![15, 0, 0]
          inb_S16x128x128_S1x128x128_15_0_0,
        st (k0_off15 k) (k0_off15_inb k) ![0, 1792] inb_S1x2048_S1x128_0_1792 ![14, 0, 0]
          inb_S16x128x128_S1x128x128_14_0_0,
        st (k0_off14 k) (k0_off14_inb k) ![0, 1664] inb_S1x2048_S1x128_0_1664 ![13, 0, 0]
          inb_S16x128x128_S1x128x128_13_0_0,
        st (k0_off13 k) (k0_off13_inb k) ![0, 1536] inb_S1x2048_S1x128_0_1536 ![12, 0, 0]
          inb_S16x128x128_S1x128x128_12_0_0,
        st (k0_off12 k) (k0_off12_inb k) ![0, 1408] inb_S1x2048_S1x128_0_1408 ![11, 0, 0]
          inb_S16x128x128_S1x128x128_11_0_0,
        st (k0_off11 k) (k0_off11_inb k) ![0, 1280] inb_S1x2048_S1x128_0_1280 ![10, 0, 0]
          inb_S16x128x128_S1x128x128_10_0_0,
        st (k0_off10 k) (k0_off10_inb k) ![0, 1152] inb_S1x2048_S1x128_0_1152 ![9, 0, 0]
          inb_S16x128x128_S1x128x128_9_0_0,
        st (k0_off9 k) (k0_off9_inb k) ![0, 1024] inb_S1x2048_S1x128_0_1024 ![8, 0, 0]
          inb_S16x128x128_S1x128x128_8_0_0,
        st (k0_off8 k) (k0_off8_inb k) ![0, 896] inb_S1x2048_S1x128_0_896 ![7, 0, 0]
          inb_S16x128x128_S1x128x128_7_0_0,
        st (k0_off7 k) (k0_off7_inb k) ![0, 768] inb_S1x2048_S1x128_0_768 ![6, 0, 0]
          inb_S16x128x128_S1x128x128_6_0_0,
        st (k0_off6 k) (k0_off6_inb k) ![0, 640] inb_S1x2048_S1x128_0_640 ![5, 0, 0]
          inb_S16x128x128_S1x128x128_5_0_0,
        st (k0_off5 k) (k0_off5_inb k) ![0, 512] inb_S1x2048_S1x128_0_512 ![4, 0, 0]
          inb_S16x128x128_S1x128x128_4_0_0,
        st (k0_off4 k) (k0_off4_inb k) ![0, 384] inb_S1x2048_S1x128_0_384 ![3, 0, 0]
          inb_S16x128x128_S1x128x128_3_0_0,
        st (k0_off3 k) (k0_off3_inb k) ![0, 256] inb_S1x2048_S1x128_0_256 ![2, 0, 0]
          inb_S16x128x128_S1x128x128_2_0_0,
        st (k0_off2 k) (k0_off2_inb k) ![0, 128] inb_S1x2048_S1x128_0_128 ![1, 0, 0]
          inb_S16x128x128_S1x128x128_1_0_0,
        st (k0_off1 k) (k0_off1_inb k) ![0, 0] inb_S1x2048_S1x128_0_0 ![0, 0, 0]
          inb_S16x128x128_S1x128x128_0_0_0] := by
  unfold trip_k0_t1
  rfl

end Cert.KernelIdeal.Trip

end
-- ==== Proof.Block.lean ====
/- What the kernel's body computes on one block of 256 rows: the carried state after each of its four chunks and
   the block of output rows, head by head, as functions of the blocks it loads and of the state it finds. -/
module

public import proofs.«01_k».proof.Proof.Trip
public import Idealize.ShloMosaic.Lib.Pipeline.Frame
public import Idealize.ShloMosaic.Lib.WholeRead

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

/-- The row number within a chunk, at every entry. -/
def ι3 : IVec S64x128 32 := iota .tc S64x128 32 [0] iota_S64x128_d0_w32
/-- The row number of a score. -/
def ι4 : IVec S64x64 32 := iota .tc S64x64 32 [0] iota_S64x64_d0_w32
/-- The column number of a score. -/
def ι5 : IVec S64x64 32 := iota .tc S64x64 32 [1] iota_S64x64_d1_w32

theorem rows_inb (k : Fin 4) (h : Fin 16) : ∀ a, (![64 * k.val, 128 * h.val] : Fin 2 → ℕ) a + S64x128.size a ≤ S256x2048.size a
  | ⟨0, _⟩ => show 64 * k.val + 64 ≤ 256 by omega
  | ⟨1, _⟩ => show 128 * h.val + 128 ≤ 2048 by omega
theorem cols_inb (h : Fin 16) : ∀ a, (![0, 128 * h.val] : Fin 2 → ℕ) a + S1x128.size a ≤ S1x2048.size a
  | ⟨0, _⟩ => show 0 + 1 ≤ 1 by omega
  | ⟨1, _⟩ => show 128 * h.val + 128 ≤ 2048 by omega
theorem slab_inb (h : Fin 16) : ∀ a, (![h.val, 0, 0] : Fin 3 → ℕ) a + S1x128x128.size a ≤ S16x128x128.size a
  | ⟨0, _⟩ => show h.val + 1 ≤ 16 by omega
  | ⟨1, _⟩ => show 0 + 128 ≤ 128 by omega
  | ⟨2, _⟩ => show 0 + 128 ≤ 128 by omega

/-- Chunk `k`'s rows and head `h`'s columns of a block. -/
def chunk (X : Vec F S256x2048 .bf16) (k : Fin 4) (h : Fin 16) : Vec F S64x128 .bf16 := fun j =>
  X ((Rect.unit (s := S256x2048) ![64 * k.val, 128 * h.val] S64x128.size (rows_inb k h)).emb j)
/-- Head `h`'s columns of a row of parameters. -/
def lane (X : Vec F S1x2048 .f32) (h : Fin 16) : Vec F S1x128 .f32 := fun j =>
  X ((Rect.unit (s := S1x2048) ![0, 128 * h.val] S1x128.size (cols_inb h)).emb j)
/-- Head `h`'s slab of the state. -/
def slab (X : Vec F S16x128x128 .f32) (h : Fin 16) : Vec F S1x128x128 .f32 := fun j =>
  X ((Rect.unit (s := S16x128x128) ![h.val, 0, 0] S1x128x128.size (slab_inb h)).emb j)

variable (q fl v g : Vec F S256x2048 .bf16) (lb ng : Vec F S1x2048 .f32)

/-- Head `h`'s state after chunk `k`, from the state before it. -/
def headState (S : Vec F S16x128x128 .f32) (k : Fin 4) (h : Fin 16) : FVec F S1x128x128 .f32 :=
  Head.outState ι3 (lane lb h) (chunk fl k h) (chunk v k h) (slab S h)

/-- The position within its head's slab of an entry of the state. -/
def slabLoc (i : S16x128x128.Idx) : S1x128x128.Idx := fun a => match a with
  | ⟨0, _⟩ => (⟨0, Nat.one_pos⟩ : Fin 1)
  | ⟨1, _⟩ => (i 1 : Fin 128)
  | ⟨2, _⟩ => (i 2 : Fin 128)

/-- The state after chunk `k`, every head's. -/
def chunkState (S : Vec F S16x128x128 .f32) (k : Fin 4) : Vec F S16x128x128 .f32 := fun i =>
  headState fl v lb S k (i 0) (slabLoc i)

/-- The state after the first `k` chunks of the block. -/
def stateAfter (S : Vec F S16x128x128 .f32) : ℕ → Vec F S16x128x128 .f32
  | 0 => S
  | k + 1 => if h : k < 4 then chunkState fl v lb (stateAfter S k) ⟨k, h⟩ else stateAfter S k

/-- Head `h`'s output rows of chunk `k`, from the state before the chunk. -/
def headOut (S : Vec F S16x128x128 .f32) (k : Fin 4) (h : Fin 16) : FVec F S64x128 .bf16 :=
  Head.outRows ι3 ι4 ι5 (lane lb h) (chunk fl k h) (chunk q k h) (chunk v k h) (slab S h) (lane ng h) (chunk g k h)

/-- The chunk of a row of the block, the head of a column, and the position within them. -/
def rowChunk (i : S256x2048.Idx) : Fin 4 := ⟨(i 0).val / 64, by have : (i 0).val < 256 := (i 0).isLt; omega⟩
def colHead (i : S256x2048.Idx) : Fin 16 := ⟨(i 1).val / 128, by have : (i 1).val < 2048 := (i 1).isLt; omega⟩
def chunkLoc (i : S256x2048.Idx) : S64x128.Idx := fun a => match a with
  | ⟨0, _⟩ => (⟨(i 0).val % 64, Nat.mod_lt _ (by decide)⟩ : Fin 64)
  | ⟨1, _⟩ => (⟨(i 1).val % 128, Nat.mod_lt _ (by decide)⟩ : Fin 128)

/-- The block of output rows, from the state the block is entered with. -/
def outBlock (S : Vec F S16x128x128 .f32) : Vec F S256x2048 .bf16 := fun i =>
  headOut q fl v g lb ng (stateAfter fl v lb S (rowChunk i).val) (rowChunk i) (colHead i) (chunkLoc i)

/-- The state after the block. -/
abbrev stateOut (S : Vec F S16x128x128 .f32) : Vec F S16x128x128 .f32 := stateAfter fl v lb S 4

theorem stateAfter_succ (S : Vec F S16x128x128 .f32) (k : Fin 4) :
    stateAfter fl v lb S (k.val + 1) = chunkState fl v lb (stateAfter fl v lb S k.val) k := dif_pos k.isLt

/-- An entry under head `h`'s rectangle of chunk `k`. -/
theorem rows_emb (k : Fin 4) (h : Fin 16) (x : S64x128.Idx) :
    rowChunk ((Rect.unit (s := S256x2048) ![64 * k.val, 128 * h.val] S64x128.size (rows_inb k h)).emb x) = k
      ∧ colHead ((Rect.unit (s := S256x2048) ![64 * k.val, 128 * h.val] S64x128.size (rows_inb k h)).emb x) = h
      ∧ chunkLoc ((Rect.unit (s := S256x2048) ![64 * k.val, 128 * h.val] S64x128.size (rows_inb k h)).emb x) = x := by
  have h0 : (x 0).val < 64 := (x 0).isLt
  have h1 : (x 1).val < 128 := (x 1).isLt
  refine ⟨Fin.ext ?_, Fin.ext ?_, funext fun a => ?_⟩
  · show (64 * k.val + 1 * (x 0).val) / 64 = k.val; omega
  · show (128 * h.val + 1 * (x 1).val) / 128 = h.val; omega
  · match a with
    | ⟨0, _⟩ => exact Fin.ext (show (64 * k.val + 1 * (x 0).val) % 64 = (x 0).val by omega)
    | ⟨1, _⟩ => exact Fin.ext (show (128 * h.val + 1 * (x 1).val) % 128 = (x 1).val by omega)

/-- An entry under head `h`'s slab. -/
theorem slab_emb (h : Fin 16) (x : S1x128x128.Idx) :
    (Rect.unit (s := S16x128x128) ![h.val, 0, 0] S1x128x128.size (slab_inb h)).emb x 0 = h
      ∧ slabLoc ((Rect.unit (s := S16x128x128) ![h.val, 0, 0] S1x128x128.size (slab_inb h)).emb x) = x := by
  have h0 : (x 0).val < 1 := (x 0).isLt
  refine ⟨Fin.ext ?_, funext fun a => ?_⟩
  · show h.val + 1 * (x 0).val = h.val; omega
  · match a with
    | ⟨0, _⟩ => exact Fin.ext (show 0 = (x 0).val by omega)
    | ⟨1, _⟩ => exact Fin.ext (show 0 + 1 * (x 1).val = (x 1).val by omega)
    | ⟨2, _⟩ => exact Fin.ext (show 0 + 1 * (x 2).val = (x 2).val by omega)

end Cert.KernelIdeal.Block

end
-- ==== Proof.BlockTrip.lean ====
/- What one trip of the kernel's loop leaves in the output block and in the carried state: the stores of its sixteen
   heads fill the chunk's rows of the block and the whole state with the functions of Block.lean. -/
module

public import proofs.«01_k».proof.Proof.Block

@[expose] public section

set_option maxRecDepth 16384
set_option maxHeartbeats 1000000

noncomputable section

namespace Cert.KernelIdeal.Block

open Cert.KernelIdeal Cert.KernelIdeal.Gen Idealize.ShloMosaic Idealize.ShloMosaic.TcCoe

variable {F : FTy → Type} [FloatOps F]

variable (arg2 : Memref sig .tc .vmem S256x2048 .bf16) (harg2 : arg2.IsWhole)
  (arg3 : Memref sig .tc .vmem S256x2048 .bf16) (harg3 : arg3.IsWhole)
  (arg4 : Memref sig .tc .vmem S256x2048 .bf16) (harg4 : arg4.IsWhole)
  (arg5 : Memref sig .tc .vmem S256x2048 .bf16) (harg5 : arg5.IsWhole)
  (arg6 : Memref sig .tc .vmem S1x2048 .f32) (harg6 : arg6.IsWhole)
  (arg7 : Memref sig .tc .vmem S1x2048 .f32) (harg7 : arg7.IsWhole)
  (arg11 : Memref sig .tc .vmem S16x128x128 .f32) (harg11 : arg11.IsWhole)
  (q fl v g : Vec F S256x2048 .bf16) (lb ng : Vec F S1x2048 .f32) (S : Vec F S16x128x128 .f32)

/-- The store of head `h`'s output rows of chunk `k`. -/
def outStore (k : Fin 4) (h : Fin 16) : View.Piece (Elt F) S256x2048 .bf16 :=
  Trip.outPiece arg2 arg3 arg4 arg5 arg6 arg7 arg11 ι3 ι4 ι5 (harg2.unread q) (harg3.unread fl) (harg4.unread v)
    (harg5.unread g) (harg6.unread lb) (harg7.unread ng) (harg11.unread S) ![64 * k.val, 128 * h.val] (rows_inb k h)
    ![0, 128 * h.val] (cols_inb h) ![h.val, 0, 0] (slab_inb h)

/-- The store of head `h`'s state after chunk `k`. -/
def stateStore (k : Fin 4) (h : Fin 16) : View.Piece (Elt F) S16x128x128 .f32 :=
  Trip.statePiece arg3 arg4 arg6 arg11 ι3 (harg3.unread fl) (harg4.unread v) (harg6.unread lb) (harg11.unread S)
    ![64 * k.val, 128 * h.val] (rows_inb k h) ![0, 128 * h.val] (cols_inb h) ![h.val, 0, 0] (slab_inb h)

theorem outStore_eq (k : Fin 4) (h : Fin 16) :
    outStore arg2 harg2 arg3 harg3 arg4 harg4 arg5 harg5 arg6 harg6 arg7 harg7 arg11 harg11 q fl v g lb ng S k h
      = ⟨Rect.unit (s := S256x2048) ![64 * k.val, 128 * h.val] S64x128.size (rows_inb k h), headOut q fl v g lb ng S k h⟩ := by
  have e2 := funext (harg2.readAt_unread q (Rect.unit (s := S256x2048) ![64 * k.val, 128 * h.val] S64x128.size (rows_inb k h)).toLoadRect)
  have e3 := funext (harg3.readAt_unread fl (Rect.unit (s := S256x2048) ![64 * k.val, 128 * h.val] S64x128.size (rows_inb k h)).toLoadRect)
  have e4 := funext (harg4.readAt_unread v (Rect.unit (s := S256x2048) ![64 * k.val, 128 * h.val] S64x128.size (rows_inb k h)).toLoadRect)
  have e5 := funext (harg5.readAt_unread g (Rect.unit (s := S256x2048) ![64 * k.val, 128 * h.val] S64x128.size (rows_inb k h)).toLoadRect)
  have e6 := funext (harg6.readAt_unread lb (Rect.unit (s := S1x2048) ![0, 128 * h.val] S1x128.size (cols_inb h)).toLoadRect)
  have e7 := funext (harg7.readAt_unread ng (Rect.unit (s := S1x2048) ![0, 128 * h.val] S1x128.size (cols_inb h)).toLoadRect)
  have e11 := funext (harg11.readAt_unread S (Rect.unit (s := S16x128x128) ![h.val, 0, 0] S1x128x128.size (slab_inb h)).toLoadRect)
  unfold outStore Trip.outPiece Trip.lanes Trip.tile Trip.slab
  rw [e2, e3, e4, e5, e6, e7, e11]
  rfl

theorem stateStore_eq (k : Fin 4) (h : Fin 16) :
    stateStore arg3 harg3 arg4 harg4 arg6 harg6 arg11 harg11 fl v lb S k h
      = ⟨Rect.unit (s := S16x128x128) ![h.val, 0, 0] S1x128x128.size (slab_inb h), headState fl v lb S k h⟩ := by
  have e3 := funext (harg3.readAt_unread fl (Rect.unit (s := S256x2048) ![64 * k.val, 128 * h.val] S64x128.size (rows_inb k h)).toLoadRect)
  have e4 := funext (harg4.readAt_unread v (Rect.unit (s := S256x2048) ![64 * k.val, 128 * h.val] S64x128.size (rows_inb k h)).toLoadRect)
  have e6 := funext (harg6.readAt_unread lb (Rect.unit (s := S1x2048) ![0, 128 * h.val] S1x128.size (cols_inb h)).toLoadRect)
  have e11 := funext (harg11.readAt_unread S (Rect.unit (s := S16x128x128) ![h.val, 0, 0] S1x128x128.size (slab_inb h)).toLoadRect)
  unfold stateStore Trip.statePiece Trip.lanes Trip.tile Trip.slab
  rw [e3, e4, e6, e11]
  rfl

/-- The sixteen heads, last first. -/
def heads : List (Fin 16) := [15, 14, 13, 12, 11, 10, 9, 8, 7, 6, 5, 4, 3, 2, 1, 0]
theorem mem_heads : ∀ h : Fin 16, h ∈ heads := by decide

variable (𝒱 : Variants) (c : Dev nD) (bd : Option 𝒱.V) (i : grid0.Coords)
  (arg8 : Memref sig .tc .vmem S16x128x128 .f32) (harg8 : arg8.IsWhole)
  (arg9 : Memref sig .tc .vmem S256x2048 .bf16) (harg9 : arg9.IsWhole)
  (arg10 : Memref sig .tc .vmem S16x128x128 .f32) (harg10 : arg10.IsWhole)
  (k : Fin k0_t1_loop.trips) (f9 : BufTy.Contents (Elt F) arg9.view.ty)

/-- The number of a trip as that of a chunk. -/
def tripChunk : Fin 4 := ⟨k.val, Nat.lt_of_lt_of_le k.isLt k0_t1_abs.2.1⟩

theorem trip_outs :
    (trip_k0_t1 (F := F) 𝒱 c bd i arg2 harg2 arg3 harg3 arg4 harg4 arg5 harg5 arg6 harg6 arg7 harg7 arg8 harg8 arg9 harg9 arg10 harg10 arg11
      harg11 ι3 ι4 ι5 (harg2.unread q) (harg3.unread fl) (harg4.unread v) (harg5.unread g) (harg6.unread lb) (harg7.unread ng) k).1 f9 (harg11.unread S)
      = heads.map (outStore arg2 harg2 arg3 harg3 arg4 harg4 arg5 harg5 arg6 harg6 arg7 harg7 arg11 harg11 q fl v g lb ng S (tripChunk k)) := by
  rw [Trip.outs]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq]
  rfl

theorem trip_states :
    (trip_k0_t1 (F := F) 𝒱 c bd i arg2 harg2 arg3 harg3 arg4 harg4 arg5 harg5 arg6 harg6 arg7 harg7 arg8 harg8 arg9 harg9 arg10 harg10 arg11
      harg11 ι3 ι4 ι5 (harg2.unread q) (harg3.unread fl) (harg4.unread v) (harg5.unread g) (harg6.unread lb) (harg7.unread ng) k).2.1 f9 (harg11.unread S)
      = heads.map (stateStore arg3 harg3 arg4 harg4 arg6 harg6 arg11 harg11 fl v lb S (tripChunk k)) := by
  rw [Trip.states]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq]
  rfl

/-- The state read back after a trip. -/
theorem read_states :
    arg11.view.read (Elt F) (arg11.view.writes (Elt F) (harg11.unread S)
      (heads.map (stateStore arg3 harg3 arg4 harg4 arg6 harg6 arg11 harg11 fl v lb S (tripChunk k))))
      = chunkState fl v lb S (tripChunk k) := by
  funext y
  refine View.read_writes_apply_of_pieces _ _ (chunkState fl v lb S (tripChunk k)) _ ?_ y ?_
  · intro p hp x
    obtain ⟨h, -, rfl⟩ := List.mem_map.mp hp
    revert x
    rw [stateStore_eq]
    intro x
    obtain ⟨e0, e1⟩ := slab_emb h x
    show headState fl v lb S (tripChunk k) h x = headState fl v lb S (tripChunk k) _ _
    rw [e0, e1]
  · refine ⟨_, List.mem_map.mpr ⟨(⟨(y 0).val, (y 0).isLt⟩ : Fin 16), mem_heads _, rfl⟩, ?_⟩
    rw [stateStore_eq]
    have h0 : (y 0).val < 16 := (y 0).isLt
    have h1 : (y 1).val < 128 := (y 1).isLt
    have h2 : (y 2).val < 128 := (y 2).isLt
    show y ∈ (Rect.unit (s := S16x128x128) ![(y 0).val, 0, 0] S1x128x128.size (slab_inb ⟨(y 0).val, (y 0).isLt⟩)).set
    refine Rect.mem_set_unit.mpr fun a => ?_
    match a with
    | ⟨0, _⟩ => exact ⟨show (y 0).val ≤ (y 0).val from le_rfl, show (y 0).val < (y 0).val + 1 by omega⟩
    | ⟨1, _⟩ => exact ⟨show 0 ≤ (y 1).val by omega, show (y 1).val < 0 + 128 by omega⟩
    | ⟨2, _⟩ => exact ⟨show 0 ≤ (y 2).val by omega, show (y 2).val < 0 + 128 by omega⟩

/-- The output block read back after a trip, in the rows of the trips so far. -/
theorem read_outs (S₀ : Vec F S16x128x128 .f32) (hS : S = stateAfter fl v lb S₀ k.val)
    (h9 : ∀ y : S256x2048.Idx, (y 0).val < 64 * k.val → arg9.view.read (Elt F) f9 y = outBlock q fl v g lb ng S₀ y)
    (y : S256x2048.Idx) (hy : (y 0).val < 64 * (k.val + 1)) :
    arg9.view.read (Elt F) (arg9.view.writes (Elt F) f9
      (heads.map (outStore arg2 harg2 arg3 harg3 arg4 harg4 arg5 harg5 arg6 harg6 arg7 harg7 arg11 harg11 q fl v g lb ng S (tripChunk k)))) y
      = outBlock q fl v g lb ng S₀ y := by
  by_cases hlt : (y 0).val < 64 * k.val
  · rw [View.read_writes_apply_of_forall_not_mem, h9 y hlt]
    intro p hp
    obtain ⟨h, -, rfl⟩ := List.mem_map.mp hp
    rw [outStore_eq]
    intro (hm : y ∈ (Rect.unit (s := S256x2048) ![64 * (tripChunk k).val, 128 * h.val] S64x128.size (rows_inb (tripChunk k) h)).set)
    have h0 : 64 * k.val ≤ (y 0).val := (Rect.mem_set_unit.mp hm 0).1
    omega
  · refine View.read_writes_apply_of_pieces _ _ (outBlock q fl v g lb ng S₀) _ ?_ y ?_
    · intro p hp x
      obtain ⟨h, -, rfl⟩ := List.mem_map.mp hp
      revert x
      rw [outStore_eq]
      intro x
      obtain ⟨e0, e1, e2⟩ := rows_emb (tripChunk k) h x
      show headOut q fl v g lb ng S (tripChunk k) h x = headOut q fl v g lb ng _ _ _ _
      rw [e0, e1, e2, hS]
      rfl
    · refine ⟨_, List.mem_map.mpr ⟨colHead y, mem_heads _, rfl⟩, ?_⟩
      rw [outStore_eq]
      have h1 : (y 1).val < 2048 := (y 1).isLt
      show y ∈ (Rect.unit (s := S256x2048) ![64 * (tripChunk k).val, 128 * (colHead y).val] S64x128.size
        (rows_inb (tripChunk k) (colHead y))).set
      refine Rect.mem_set_unit.mpr fun a => ?_
      match a with
      | ⟨0, _⟩ => exact ⟨show 64 * k.val ≤ (y 0).val by omega, show (y 0).val < 64 * k.val + 64 by omega⟩
      | ⟨1, _⟩ =>
        exact ⟨show 128 * ((y 1).val / 128) ≤ (y 1).val by omega, show (y 1).val < 128 * ((y 1).val / 128) + 128 by omega⟩

end Cert.KernelIdeal.Block

end
-- ==== Proof.Run.lean ====
/- The run of the kernel's body on whole staging memrefs: its loop by an invariant that names the state after the
   chunks so far and the output rows they fill, then the body at a point that starts a batch row and at one that does not. -/
module

public import proofs.«01_k».proof.Proof.BlockTrip
public import proofs.«01_k».proof.Proof.Gen.KernelIdeal.Frame.Runs
public import Idealize.ShloMosaic.Lib.VecWindow

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S256x2048 .bf16) (harg2 : arg2.IsWhole)
  (arg3 : Memref sig .tc .vmem S256x2048 .bf16) (harg3 : arg3.IsWhole)
  (arg4 : Memref sig .tc .vmem S256x2048 .bf16) (harg4 : arg4.IsWhole)
  (arg5 : Memref sig .tc .vmem S256x2048 .bf16) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S16x128x128 .f32) (harg8 : arg8.IsWhole)
  (arg9 : Memref sig .tc .vmem S256x2048 .bf16) (harg9 : arg9.IsWhole)
  (arg10 : Memref sig .tc .vmem S16x128x128 .f32) (harg10 : arg10.IsWhole)
  (arg11 : Memref sig .tc .vmem S16x128x128 .f32) (harg11 : arg11.IsWhole)
  (q fl v g : Vec F S256x2048 .bf16) (lb ng : Vec F S1x2048 .f32) (S : Vec F S16x128x128 .f32)

/-- Before trip `k`: what the body reads as it was, the output's rows of the chunks so far, and the state after them. -/
@[irreducible] def Inv (k : ℕ) : sProp 𝕄 := iprop((arg2.view.loc (c : Thread nD τ) ↦[arg2.view.set]{fullShare} harg2.unread q)
    ∗ (arg3.view.loc (c : Thread nD τ) ↦[arg3.view.set]{fullShare} harg3.unread fl)
    ∗ (arg4.view.loc (c : Thread nD τ) ↦[arg4.view.set]{fullShare} harg4.unread v)
    ∗ (arg5.view.loc (c : Thread nD τ) ↦[arg5.view.set]{fullShare} harg5.unread g)
    ∗ (arg6.view.loc (c : Thread nD τ) ↦[arg6.view.set]{fullShare} harg6.unread lb)
    ∗ (arg7.view.loc (c : Thread nD τ) ↦[arg7.view.set]{fullShare} harg7.unread ng)
    ∗ (∃ f, (arg9.view.loc (c : Thread nD τ) ↦[arg9.view.set]{fullShare} f)
        ∗ ⌜∀ y : S256x2048.Idx, (y 0).val < 64 * k → arg9.view.read (Elt F) f y = outBlock q fl v g lb ng S y⌝)
    ∗ (arg11.view.loc (c : Thread nD τ) ↦[arg11.view.set]{fullShare} harg11.unread (stateAfter fl v lb S k)))

/-- The invariants of the kernel's loop over the chunks of a block. -/
abbrev ChunkLoop := Idealize.ShloMosaic.LoopInv (M := 𝕄) Idealize.ShloMosaic.frame
  (wpE (defs₀ (F := F)) Variants.none (c : Thread nD τ) none) Set.univ k0_t1_loop.lb k0_t1_loop.ub k0_t1_loop.st k0_t1_ok ()
  (k0_t1_body (F := F) i arg2 harg2 arg3 harg3 arg4 harg4 arg5 harg5 arg6 harg6 arg7 harg7 arg8 harg8 arg9 harg9 arg10 harg10 arg11 harg11 ι3 ι4 ι5)

/-- The kernel's loop by that invariant. -/
abbrev loopInv : ChunkLoop (F := F) c i arg2 harg2 arg3 harg3 arg4 harg4 arg5 harg5 arg6 harg6 arg7 harg7 arg8 harg8 arg9 harg9 arg10 harg10 arg11 harg11 where
  inv k _ := Inv c arg2 harg2 arg3 harg3 arg4 harg4 arg5 harg5 arg6 harg6 arg7 harg7 arg9 arg11 harg11 q fl v g lb ng S k
  step k acc := by
    unfold Inv
    iintro ⟨H2, H3, H4, H5, H6, H7, ⟨%f9, H9, %h9⟩, H11⟩
    iapply (wp_wand_r Idealize.ShloMosaic.frame (wpE (defs₀ (F := F)) Variants.none (c : Thread nD τ) none) Set.univ)
    isplitl [H2 H3 H4 H5 H6 H7 H9 H11]
    · iapply ((trip_k0_t1 (F := F) Variants.none c none i arg2 harg2 arg3 harg3 arg4 harg4 arg5 harg5 arg6 harg6 arg7 harg7 arg8 harg8 arg9 harg9 arg10 harg10 arg11 harg11 ι3 ι4 ι5
        (harg2.unread q) (harg3.unread fl) (harg4.unread v) (harg5.unread g) (harg6.unread lb) (harg7.unread ng) k).2.2
        Set.univ f9 (harg11.unread (stateAfter fl v lb S k.val)))
      isplitl [H2]; · iexact H2
      isplitl [H3]; · iexact H3
      isplitl [H4]; · iexact H4
      isplitl [H5]; · iexact H5
      isplitl [H6]; · iexact H6
      isplitl [H7]; · iexact H7
      isplitl [H9]; · iexact H9
      iexact H11
    · iintro %_ ⟨H2, H3, H4, H5, H6, H7, H9, H11⟩
      isplitl [H2]; · iexact H2
      isplitl [H3]; · iexact H3
      isplitl [H4]; · iexact H4
      isplitl [H5]; · iexact H5
      isplitl [H6]; · iexact H6
      isplitl [H7]; · iexact H7
      rw [trip_outs, trip_states]
      isplitl [H9]
      · iexists _; isplitl [H9]; · iexact H9
        ipureintro
        exact read_outs arg2 harg2 arg3 harg3 arg4 harg4 arg5 harg5 arg6 harg6 arg7 harg7 arg11 harg11 q fl v g lb ng _
          arg9 k f9 S rfl h9
      have e := harg11.eq_unread (read_states arg3 harg3 arg4 harg4 arg6 harg6 arg11 harg11 fl v lb (stateAfter fl v lb S k.val) k)
      rw [e, show stateAfter fl v lb S (k.val + 1) = chunkState fl v lb (stateAfter fl v lb S k.val) (tripChunk k) from
        stateAfter_succ fl v lb S (tripChunk k)]
      iexact H11

/-- The output rows before the first trip: none. -/
theorem no_rows (f9 : Buf (Elt F) (arg9.view.loc (c : Thread nD τ))) (y : S256x2048.Idx) (h : (y 0).val < 64 * 0) :
    arg9.view.read (Elt F) f9 y = outBlock q fl v g lb ng S y := absurd h (by omega)

theorem inv_zero (f9 : Buf (Elt F) (arg9.view.loc (c : Thread nD τ))) :
    iprop((arg2.view.loc (c : Thread nD τ) ↦[arg2.view.set]{fullShare} harg2.unread q)
    ∗ (arg3.view.loc (c : Thread nD τ) ↦[arg3.view.set]{fullShare} harg3.unread fl)
    ∗ (arg4.view.loc (c : Thread nD τ) ↦[arg4.view.set]{fullShare} harg4.unread v)
    ∗ (arg5.view.loc (c : Thread nD τ) ↦[arg5.view.set]{fullShare} harg5.unread g)
    ∗ (arg6.view.loc (c : Thread nD τ) ↦[arg6.view.set]{fullShare} harg6.unread lb)
    ∗ (arg7.view.loc (c : Thread nD τ) ↦[arg7.view.set]{fullShare} harg7.unread ng)
        ∗ (arg9.view.loc (c : Thread nD τ) ↦[arg9.view.set]{fullShare} f9)
        ∗ (arg11.view.loc (c : Thread nD τ) ↦[arg11.view.set]{fullShare} harg11.unread S))
      ⊢ Inv c arg2 harg2 arg3 harg3 arg4 harg4 arg5 harg5 arg6 harg6 arg7 harg7 arg9 arg11 harg11 q fl v g lb ng S 0 := by
  unfold Inv
  iintro ⟨H2, H3, H4, H5, H6, H7, H9, H11⟩
  isplitl [H2]; · iexact H2
  isplitl [H3]; · iexact H3
  isplitl [H4]; · iexact H4
  isplitl [H5]; · iexact H5
  isplitl [H6]; · iexact H6
  isplitl [H7]; · iexact H7
  isplitl [H9]
  · iexists f9; isplitl [H9]; · iexact H9
    ipureintro
    exact no_rows c arg9 q fl v g lb ng S f9
  iexact H11

/-- After the last trip every row of the output's block is in place. -/
theorem inv_end :
    Inv c arg2 harg2 arg3 harg3 arg4 harg4 arg5 harg5 arg6 harg6 arg7 harg7 arg9 arg11 harg11 q fl v g lb ng S k0_t1_loop.trips
      ⊢ iprop((arg2.view.loc (c : Thread nD τ) ↦[arg2.view.set]{fullShare} harg2.unread q)
    ∗ (arg3.view.loc (c : Thread nD τ) ↦[arg3.view.set]{fullShare} harg3.unread fl)
    ∗ (arg4.view.loc (c : Thread nD τ) ↦[arg4.view.set]{fullShare} harg4.unread v)
    ∗ (arg5.view.loc (c : Thread nD τ) ↦[arg5.view.set]{fullShare} harg5.unread g)
    ∗ (arg6.view.loc (c : Thread nD τ) ↦[arg6.view.set]{fullShare} harg6.unread lb)
    ∗ (arg7.view.loc (c : Thread nD τ) ↦[arg7.view.set]{fullShare} harg7.unread ng)
        ∗ owns (c : Thread nD τ) arg9 fullShare (outBlock q fl v g lb ng S)
        ∗ (arg11.view.loc (c : Thread nD τ) ↦[arg11.view.set]{fullShare} harg11.unread (stateOut fl v lb S))) := by
  unfold Inv owns
  iintro ⟨H2, H3, H4, H5, H6, H7, ⟨%f9, H9, %h9⟩, H11⟩
  isplitl [H2]; · iexact H2
  isplitl [H3]; · iexact H3
  isplitl [H4]; · iexact H4
  isplitl [H5]; · iexact H5
  isplitl [H6]; · iexact H6
  isplitl [H7]; · iexact H7
  isplitl [H9]
  · iexists f9; isplitr [H9]
    · ipureintro
      exact funext fun y => h9 y (y 0).isLt
    iexact H9
  iexact H11

/-- What the loop and the store after it leave, from a carried state of contents `S`. -/
theorem run_loop (S₁ : Vec F S16x128x128 .f32) (K : PUnit → sProp 𝕄) :
    iprop((arg2.view.loc (c : Thread nD τ) ↦[arg2.view.set]{fullShare} harg2.unread q)
    ∗ (arg3.view.loc (c : Thread nD τ) ↦[arg3.view.set]{fullShare} harg3.unread fl)
    ∗ (arg4.view.loc (c : Thread nD τ) ↦[arg4.view.set]{fullShare} harg4.unread v)
    ∗ (arg5.view.loc (c : Thread nD τ) ↦[arg5.view.set]{fullShare} harg5.unread g)
    ∗ (arg6.view.loc (c : Thread nD τ) ↦[arg6.view.set]{fullShare} harg6.unread lb)
    ∗ (arg7.view.loc (c : Thread nD τ) ↦[arg7.view.set]{fullShare} harg7.unread ng)
        ∗ (arg8.view.loc (c : Thread nD τ) ↦[arg8.view.set]{fullShare} harg8.unread S₁)
        ∗ (∃ f, arg9.view.loc (c : Thread nD τ) ↦[arg9.view.set]{fullShare} f)
        ∗ (∃ f, arg10.view.loc (c : Thread nD τ) ↦[arg10.view.set]{fullShare} f)
        ∗ (arg11.view.loc (c : Thread nD τ) ↦[arg11.view.set]{fullShare} harg11.unread S)
        ∗ (iprop(owns (c : Thread nD τ) arg2 fullShare q ∗ owns (c : Thread nD τ) arg3 fullShare fl ∗ owns (c : Thread nD τ) arg4 fullShare v ∗ owns (c : Thread nD τ) arg5 fullShare g ∗ owns (c : Thread nD τ) arg6 fullShare lb ∗ owns (c : Thread nD τ) arg7 fullShare ng ∗ owns (c : Thread nD τ) arg8 fullShare S₁ ∗ owns (c : Thread nD τ) arg9 fullShare (outBlock q fl v g lb ng S) ∗ owns (c : Thread nD τ) arg10 fullShare (stateOut fl v lb S) ∗ owns (c : Thread nD τ) arg11 fullShare (stateOut fl v lb S)) -∗ K ⟨⟩))
      ⊢ wp Idealize.ShloMosaic.frame (wpE (defs₀ (F := F)) Variants.none (c : Thread nD τ) none) Set.univ (do
          Scf.Loop.for k0_t1_loop k0_t1_ok ⟨⟩ (k0_t1_body i arg2 harg2 arg3 harg3 arg4 harg4 arg5 harg5 arg6 harg6 arg7 harg7 arg8 harg8 arg9 harg9 arg10 harg10 arg11 harg11 ι3 ι4 ι5)
          let v7 : Vec F S16x128x128 .f32 ← Prog.lift (.load arg11 (Rect.unit (s := S16x128x128) ![0, 0, 0] S16x128x128.size inb_S16x128x128_S16x128x128_0_0_0).toLoadRect (View.loadsAt_vmem h_S16x128x128))
          let _v8 : Vec F S16x128x128 .f32 ← Prog.lift (.load arg10 (Rect.unit (s := S16x128x128) ![0, 0, 0] S16x128x128.size inb_S16x128x128_S16x128x128_0_0_0).toLoadRect (View.loadsAt_vmem h_S16x128x128))
          Prog.lift (.store arg10 (Rect.unit (s := S16x128x128) ![0, 0, 0] S16x128x128.size inb_S16x128x128_S16x128x128_0_0_0) v7 Finset.univ (View.stores_vmem_bits_univ h_S16x128x128 rfl) (.inl rfl))
          pure ⟨⟩) K := by
  iintro ⟨H2, H3, H4, H5, H6, H7, H8, ⟨%f9, H9⟩, ⟨%f10, H10⟩, H11, Hk⟩
  iapply (exec_loop Idealize.ShloMosaic.frame (wpE (defs₀ (F := F)) Variants.none (c : Thread nD τ) none) Set.univ _ _ _ _ _ _
    (loopInv c i arg2 harg2 arg3 harg3 arg4 harg4 arg5 harg5 arg6 harg6 arg7 harg7 arg8 harg8 arg9 harg9 arg10 harg10 arg11 harg11 q fl v g lb ng S)) $$ [H2 H3 H4 H5 H6 H7 H9 H11]
  · iapply (inv_zero c arg2 harg2 arg3 harg3 arg4 harg4 arg5 harg5 arg6 harg6 arg7 harg7 arg9 arg11 harg11 q fl v g lb ng S f9)
    isplitl [H2]; · iexact H2
    isplitl [H3]; · iexact H3
    isplitl [H4]; · iexact H4
    isplitl [H5]; · iexact H5
    isplitl [H6]; · iexact H6
    isplitl [H7]; · iexact H7
    isplitl [H9]; · iexact H9
    iexact H11
  iintro %_ HI
  ihave HI := (inv_end c arg2 harg2 arg3 harg3 arg4 harg4 arg5 harg5 arg6 harg6 arg7 harg7 arg9 arg11 harg11 q fl v g lb ng S) $$ HI
  icases HI with ⟨H2, H3, H4, H5, H6, H7, H9, H11⟩
  sl_exec
  sl_step
  iapply Hk
  unfold owns
  isplitl [H2]; · iexists _; isplitr; swap; (iexact H2); ipureintro; exact harg2.read_unread _
  isplitl [H3]; · iexists _; isplitr; swap; (iexact H3); ipureintro; exact harg3.read_unread _
  isplitl [H4]; · iexists _; isplitr; swap; (iexact H4); ipureintro; exact harg4.read_unread _
  isplitl [H5]; · iexists _; isplitr; swap; (iexact H5); ipureintro; exact harg5.read_unread _
  isplitl [H6]; · iexists _; isplitr; swap; (iexact H6); ipureintro; exact harg6.read_unread _
  isplitl [H7]; · iexists _; isplitr; swap; (iexact H7); ipureintro; exact harg7.read_unread _
  isplitl [H8]; · iexists _; isplitr; swap; (iexact H8); ipureintro; exact harg8.read_unread _
  isplitl [H9]; · iexact H9
  isplitl [H10]
  · iexists _; isplitr; swap; (iexact H10)
    ipureintro
    exact (View.read_writes_full _ _ _ _ _).trans ((View.readAt_full _ _ _).trans (harg11.read_unread _))
  iexists _; isplitr; swap; (iexact H11)
  ipureintro; exact harg11.read_unread _

/-- The body at a point that starts a batch row: the carried state is the given one. -/
theorem run_start (hc : cond0_0 i) (S₁ : Vec F S16x128x128 .f32) (K : PUnit → sProp 𝕄) :
    iprop(owns (c : Thread nD τ) arg2 fullShare q ∗ owns (c : Thread nD τ) arg3 fullShare fl ∗ owns (c : Thread nD τ) arg4 fullShare v ∗ owns (c : Thread nD τ) arg5 fullShare g ∗ owns (c : Thread nD τ) arg6 fullShare lb ∗ owns (c : Thread nD τ) arg7 fullShare ng ∗ owns (c : Thread nD τ) arg8 fullShare S₁ ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare q ∗ owns (c : Thread nD τ) arg3 fullShare fl ∗ owns (c : Thread nD τ) arg4 fullShare v ∗ owns (c : Thread nD τ) arg5 fullShare g ∗ owns (c : Thread nD τ) arg6 fullShare lb ∗ owns (c : Thread nD τ) arg7 fullShare ng ∗ owns (c : Thread nD τ) arg8 fullShare S₁ ∗ owns (c : Thread nD τ) arg9 fullShare (outBlock q fl v g lb ng S₁) ∗ owns (c : Thread nD τ) arg10 fullShare (stateOut fl v lb S₁) ∗ owns (c : Thread nD τ) arg11 fullShare (stateOut fl v lb S₁)) -∗ K ⟨⟩))
      ⊢ wp Idealize.ShloMosaic.frame (wpE (defs₀ (F := F)) Variants.none c none) Set.univ (cc0_hg_branch i arg2 harg2 arg3 harg3 arg4 harg4 arg5 harg5 arg6 harg6 arg7 harg7 arg8 harg8 arg9 harg9 arg10 harg10 arg11 harg11) K := by
  simp only [cc0_hg_branch_eq_skeleton]; unfold cc0_hg_branch_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  let L : ChunkLoop (F := F) c i arg2 harg2 arg3 harg3 arg4 harg4 arg5 harg5 arg6 harg6 arg7 harg7 arg8 harg8 arg9 harg9 arg10 harg10 arg11 harg11 :=
    loopInv c i arg2 harg2 arg3 harg3 arg4 harg4 arg5 harg5 arg6 harg6 arg7 harg7 arg8 harg8 arg9 harg9 arg10 harg10 arg11 harg11 q fl v g lb ng S₁
  sl_exec (disch := first | sl_exact hc)
  have e := harg11.eq_unread (X := S₁) (f := arg11.view.writes (Elt F) arg11.view.junk (run_start.sl.H11_1 c arg8 harg8 S₁)) (by
    unfold run_start.sl.H11_1
    refine (View.read_writes_full _ _ _ _ _).trans ?_
    unfold k0_pay1
    refine (shapeCast_self _ _).trans ?_
    exact (View.readAt_full _ _ _).trans (harg8.read_unread _))
  rw [e]
  iapply (run_loop c i arg2 harg2 arg3 harg3 arg4 harg4 arg5 harg5 arg6 harg6 arg7 harg7 arg8 harg8 arg9 harg9 arg10 harg10 arg11 harg11 q fl v g lb ng S₁ S₁ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  iexact Hk

/-- The body at any other point: the carried state is what the point before left. -/
theorem run_carry (hc : ¬cond0_0 i) (S₁ : Vec F S16x128x128 .f32) (K : PUnit → sProp 𝕄) :
    iprop(owns (c : Thread nD τ) arg2 fullShare q ∗ owns (c : Thread nD τ) arg3 fullShare fl ∗ owns (c : Thread nD τ) arg4 fullShare v ∗ owns (c : Thread nD τ) arg5 fullShare g ∗ owns (c : Thread nD τ) arg6 fullShare lb ∗ owns (c : Thread nD τ) arg7 fullShare ng ∗ owns (c : Thread nD τ) arg8 fullShare S₁ ∗ (∃ d, owns (c : Thread nD τ) arg9 fullShare d) ∗ (∃ d, owns (c : Thread nD τ) arg10 fullShare d) ∗ owns (c : Thread nD τ) arg11 fullShare S
        ∗ (iprop(owns (c : Thread nD τ) arg2 fullShare q ∗ owns (c : Thread nD τ) arg3 fullShare fl ∗ owns (c : Thread nD τ) arg4 fullShare v ∗ owns (c : Thread nD τ) arg5 fullShare g ∗ owns (c : Thread nD τ) arg6 fullShare lb ∗ owns (c : Thread nD τ) arg7 fullShare ng ∗ owns (c : Thread nD τ) arg8 fullShare S₁ ∗ owns (c : Thread nD τ) arg9 fullShare (outBlock q fl v g lb ng S) ∗ owns (c : Thread nD τ) arg10 fullShare (stateOut fl v lb S) ∗ owns (c : Thread nD τ) arg11 fullShare (stateOut fl v lb S)) -∗ K ⟨⟩))
      ⊢ wp Idealize.ShloMosaic.frame (wpE (defs₀ (F := F)) Variants.none c none) Set.univ (cc0_hg_branch i arg2 harg2 arg3 harg3 arg4 harg4 arg5 harg5 arg6 harg6 arg7 harg7 arg8 harg8 arg9 harg9 arg10 harg10 arg11 harg11) K := by
  simp only [cc0_hg_branch_eq_skeleton]; unfold cc0_hg_branch_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11
  let L : ChunkLoop (F := F) c i arg2 harg2 arg3 harg3 arg4 harg4 arg5 harg5 arg6 harg6 arg7 harg7 arg8 harg8 arg9 harg9 arg10 harg10 arg11 harg11 :=
    loopInv c i arg2 harg2 arg3 harg3 arg4 harg4 arg5 harg5 arg6 harg6 arg7 harg7 arg8 harg8 arg9 harg9 arg10 harg10 arg11 harg11 q fl v g lb ng S
  sl_exec (disch := first | sl_exact hc)
  iapply (run_loop c i arg2 harg2 arg3 harg3 arg4 harg4 arg5 harg5 arg6 harg6 arg7 harg7 arg8 harg8 arg9 harg9 arg10 harg10 arg11 harg11 q fl v g lb ng S S₁ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  iexact Hk

end Cert.KernelIdeal.Block

end
-- ==== Proof.Frame.lean ====
/- The frame of the kernel: what its staging buffers and its carried state hold after every grid point, the body's
   obligation at a point, and the run of the whole program. -/
module

public import proofs.«01_k».proof.Proof.Run
public import Idealize.ShloMosaic.Lib.Claim

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of queries the pipeline stages at a point; then the forget logits, the values, the output gates, the
    lower bounds, the norm's weights and the initial state. -/
abbrev qBlk (c : Dev nD) (t : Fin cfg0.N) : Vec F S256x2048 .bf16 := iblk m c 0 t
abbrev fBlk (c : Dev nD) (t : Fin cfg0.N) : Vec F S256x2048 .bf16 := iblk m c 1 t
abbrev vBlk (c : Dev nD) (t : Fin cfg0.N) : Vec F S256x2048 .bf16 := iblk m c 2 t
abbrev gBlk (c : Dev nD) (t : Fin cfg0.N) : Vec F S256x2048 .bf16 := iblk m c 3 t
abbrev lbBlk (c : Dev nD) (t : Fin cfg0.N) : Vec F S1x2048 .f32 := iblk m c 4 t
abbrev ngBlk (c : Dev nD) (t : Fin cfg0.N) : Vec F S1x2048 .f32 := iblk m c 5 t
abbrev s0Blk (c : Dev nD) (t : Fin cfg0.N) : Vec F S16x128x128 .f32 := iblk m c 6 t

/-- The state a point leaves: from the given state where a batch row starts, else from what the point before left. -/
def carried (c : Dev nD) : (n : ℕ) → n < cfg0.N → Vec F S16x128x128 .f32
  | 0, h => stateOut (fBlk m c ⟨0, h⟩) (vBlk m c ⟨0, h⟩) (lbBlk m c ⟨0, h⟩) (s0Blk m c ⟨0, h⟩)
  | n + 1, h => stateOut (fBlk m c ⟨n + 1, h⟩) (vBlk m c ⟨n + 1, h⟩) (lbBlk m c ⟨n + 1, h⟩)
      (if (n + 1) % 16 = 0 then s0Blk m c ⟨n + 1, h⟩ else carried c n (Nat.lt_of_succ_lt h))

/-- The state a point starts from. -/
def entry (c : Dev nD) (t : Fin cfg0.N) : Vec F S16x128x128 .f32 :=
  if t.val % 16 = 0 then s0Blk m c t else carried m c (t.val - 1) (Nat.lt_of_le_of_lt (Nat.sub_le _ _) t.isLt)

theorem carried_eq (c : Dev nD) (t : Fin cfg0.N) :
    carried m c t.val t.isLt = stateOut (fBlk m c t) (vBlk m c t) (lbBlk m c t) (entry m c t) := by
  obtain ⟨n, hn⟩ := t
  cases n with
  | zero => rfl
  | succ n => rfl

theorem entry_start (c : Dev nD) (t : Fin cfg0.N) (h : t.val % 16 = 0) : entry m c t = s0Blk m c t := if_pos h

theorem entry_carry (c : Dev nD) (t : Fin cfg0.N) (h : ¬t.val % 16 = 0) :
    entry m c t = carried m c (t.val - 1) (Nat.lt_of_le_of_lt (Nat.sub_le _ _) t.isLt) := if_neg h

/-- The output block a point leaves. -/
def outAt (c : Dev nD) (t : Fin cfg0.N) : Vec F S256x2048 .bf16 :=
  outBlock (qBlk m c t) (fBlk m c t) (vBlk m c t) (gBlk m c t) (lbBlk m c t) (ngBlk m c t) (entry m c t)

/-- Before point `n`: the carried state, at anything before the first point, then at what the point before left. -/
def Phi (c : Dev nD) : (n : ℕ) → n ≤ cfg0.N → sProp 𝕄
  | 0, _ => Pipeline.ΦA spec0 c
  | n + 1, hn => iprop(owns (c : Thread nD τ) scM0_0 fullShare (carried m c n hn) ∗ (∃ r, prngReg c r))

theorem Phi_pos (c : Dev nD) (n : ℕ) (h : n ≤ cfg0.N) (hz : n ≠ 0) :
    Phi m c n h = iprop(owns (c : Thread nD τ) scM0_0 fullShare (carried m c (n - 1) (by omega)) ∗ (∃ r, prngReg c r)) := by
  cases n with
  | zero => exact absurd rfl hz
  | succ n => rfl

/-- At any point the carried state is at something. -/
theorem Phi_any (c : Dev nD) (n : ℕ) (h : n ≤ cfg0.N) :
    Phi m c n h ⊢ iprop((∃ d, owns (c : Thread nD τ) scM0_0 fullShare d) ∗ (∃ r, prngReg c r)) := by
  by_cases hz : n = 0
  · subst hz
    rw [show Phi m c 0 h = Pipeline.ΦA spec0 c from rfl, PhiA0_eq]
    try exact Idealize.SL.BI.Entails.refl _
  · rw [Phi_pos m c n h hz]
    iintro ⟨HS, Hg⟩
    isplitl [HS]
    · iexists _; iexact HS
    iexact Hg

/-- What the arrays hold where the pipeline starts, what each staging buffer holds after a point, and the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => carried m c t.val t.isLt
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem after_8 (c : Dev nD) (t : Fin cfg0.N) : (dats m 0 c).after 8 t = carried m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1000000 in
/-- The body at a point: the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8,
    show (dats m 0 c).Φ t.succ = iprop(owns (c : Thread nD τ) scM0_0 fullShare (carried m c t.val t.isLt) ∗ (∃ r, prngReg c r)) from rfl,
    Phi_castSucc m c t, carried_eq]
  unfold outAt
  by_cases h0 : t.val % 16 = 0
  · rw [entry_start m c t h0]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP := (Phi_any m c t.val (Nat.le_of_lt t.isLt)) $$ HP
    icases HP with ⟨HS, Hg⟩
    iapply (run_start c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (qBlk m c t) (fBlk m c t) (vBlk m c t) (gBlk m c t) (lbBlk m c t) (ngBlk m c t) ((hcond0_0 t).mpr h0) (s0Blk m c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun h => h0 (by rw [h])
    rw [Phi_pos m c _ _ hz, entry_carry m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_carry c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (qBlk m c t) (fBlk m c t) (vBlk m c t) (gBlk m c t) (lbBlk m c t) (ngBlk m c t) _ (fun h => h0 ((hcond0_0 t).mp h)) (s0Blk m c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body the pipeline calls at a point is the body at that point's staging buffers. -/
theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl, PhiA0_eq]
  exact Phi_any m c _ _

-- the launch rule's implicit arguments are found by unifying its conclusion with the statement
set_option backward.isDefEq.respectTransparency.types false in
/-- The run: every array of the pipeline ends at what the points' blocks make of it, everything else as it was, and every
    semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged, and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Block

end
-- ==== Proof.SameText.lean ====
/- The kernel and its idealization are one text: their bodies, their body tables and their main programs are equal over
   any floats, so a run of the one is a run of the other. The same of the query projection. -/
module

public import proofs.«01_k».proof.Defs
public import proofs.«01_k».proof.Proof.Gen.Kernel
public import proofs.«01_k».proof.Proof.Gen.KernelIdeal
public import proofs.«01_k».proof.Proof.Gen.Kernel5
public import proofs.«01_k».proof.Proof.Gen.Kernel5Ideal

@[expose] public section

set_option maxRecDepth 100000

namespace Cert.SameText

open Idealize.ShloMosaic

variable {F : FTy → Type} [FloatOps F]

theorem body_eq : @Cert.Kernel.cc0_hg_branch F _ Cert.Kernel.Gen.facts
    = @Cert.KernelIdeal.cc0_hg_branch F _ Cert.KernelIdeal.Gen.facts := rfl

theorem bodies_eq : @Cert.Kernel.defs₀ F _ Cert.Kernel.Gen.facts = @Cert.KernelIdeal.defs₀ F _ Cert.KernelIdeal.Gen.facts := by
  unfold Kernel.defs₀ KernelIdeal.defs₀
  congr 1
  funext a b
  match a, b with
  | 0, (t, s) =>
    dsimp only
    rw [body_eq]
    rfl
  | ⟨n + 1, h⟩, _ => exact absurd h (Nat.not_lt.2 (Nat.le_add_left _ _))

theorem defs_eq : @Cert.Kernel.defs F _ Cert.Kernel.Gen.facts = @Cert.KernelIdeal.defs F _ Cert.KernelIdeal.Gen.facts :=
  congrArg (Pipeline.defs (Cert.KernelIdeal.pcfgs (F := F))) bodies_eq

theorem main_eq : @Cert.Kernel.main F _ Cert.Kernel.Gen.facts = @Cert.KernelIdeal.main F _ Cert.KernelIdeal.Gen.facts := rfl

theorem body5_eq : @Cert.Kernel5.cc0_norm_matmul_xn F _ Cert.Kernel5.Gen.facts
    = @Cert.Kernel5Ideal.cc0_norm_matmul_xn F _ Cert.Kernel5Ideal.Gen.facts := rfl

theorem bodies5_eq : @Cert.Kernel5.defs₀ F _ Cert.Kernel5.Gen.facts = @Cert.Kernel5Ideal.defs₀ F _ Cert.Kernel5Ideal.Gen.facts := by
  unfold Kernel5.defs₀ Kernel5Ideal.defs₀
  congr 1
  funext a b
  match a, b with
  | 0, (t, s) =>
    dsimp only
    rw [body5_eq]
    rfl
  | ⟨n + 1, h⟩, _ => exact absurd h (Nat.not_lt.2 (Nat.le_add_left _ _))

theorem defs5_eq : @Cert.Kernel5.defs F _ Cert.Kernel5.Gen.facts = @Cert.Kernel5Ideal.defs F _ Cert.Kernel5Ideal.Gen.facts :=
  congrArg (Pipeline.defs (Cert.Kernel5Ideal.pcfgs (F := F))) bodies5_eq

theorem main5_eq : @Cert.Kernel5.main F _ Cert.Kernel5.Gen.facts = @Cert.Kernel5Ideal.main F _ Cert.Kernel5Ideal.Gen.facts := rfl

end Cert.SameText
-- ==== Proof.Branch.lean ====
/- The branch as mathematics on the extended reals, a chunk of 64 rows at a time: the decay summed along a chunk, the
   scores of its rows against each other, its output rows from the state it finds, the state it leaves, and the
   normalised, gated result. Neither program's tiling, layout or order of sums is in it. -/
module

public import Idealize.ShloMosaic.Lib.Pointwise
public import Idealize.ShloMosaic.PureOps.Ideal

@[expose] public section

noncomputable section

namespace Cert.Branch

open Idealize.ShloMosaic
open scoped BigOperators

/-- A head's columns of a chunk: 64 rows of 128 numbers. -/
abbrev Rows := Fin 64 → Fin 128 → EReal
/-- A head's state, by key and value column. -/
abbrev State := Fin 128 → Fin 128 → EReal

/-- The logarithms of the gate summed up to and including row `t`. -/
def cum (lf : Rows) (t : Fin 64) (k : Fin 128) : EReal := ∑ u : Fin 64, if u ≤ t then lf u k else 0

/-- The score of row `t` against row `s`, decayed from `s` to `t`; none against a later row. -/
def score (qs kk lf : Rows) (t s : Fin 64) : EReal :=
  ∑ k : Fin 128, qs t k * Ideal.exp (if s ≤ t then cum lf t k - cum lf s k else ⊥) * kk s k

/-- The chunk's rows: scores times values, and what the state before the chunk gives. -/
def rows (qs kk lf v : Rows) (S : State) : Rows := fun t d =>
  ∑ s : Fin 64, score qs kk lf t s * v s d + ∑ k : Fin 128, qs t k * Ideal.exp (cum lf t k) * S k d

/-- The state after the chunk. -/
def next (kk lf v : Rows) (S : State) : State := fun k d =>
  Ideal.exp (cum lf 63 k) * S k d + ∑ s : Fin 64, kk s k * Ideal.exp (cum lf 63 k - cum lf s k) * v s d

variable (X : (⟨2, ![16384, 16384]⟩ : Shape).Idx → EReal) (L : Fin 2048 → EReal)
  (ng : (⟨2, ![1, 2048]⟩ : Shape).Idx → EReal) (s0 : (⟨3, ![16, 128, 128]⟩ : Shape).Idx → EReal)

/-- Head `h`'s columns, from column `off` on, of chunk `n` of sequence `b`. -/
def part (off b n : ℕ) (h : Fin 16) : Rows := fun t k =>
  X (ix2 ⟨(4096 * b + 64 * n + t.val) % 16384, Nat.mod_lt _ (by decide)⟩
    ⟨(off + 128 * h.val + k.val) % 16384, Nat.mod_lt _ (by decide)⟩)

/-- The column of the whole width that is column `k` of head `h`. -/
def wide (h : Fin 16) (k : Fin 128) : Fin 2048 := ⟨128 * h.val + k.val, by omega⟩

/-- `x · σ(x)`. -/
def silu (x : EReal) : EReal := x * Ideal.logistic x
/-- The forget gate, from its lower bound and its logit. -/
def gate (l x : EReal) : EReal := l + (1 - l) * Ideal.logistic x

def query (b n : ℕ) (h : Fin 16) : Rows := fun t k => silu (part X 4096 b n h t k)
def gates (b n : ℕ) (h : Fin 16) : Rows := fun t k => gate (L (wide h k)) (part X 6144 b n h t k)
def key (b n : ℕ) (h : Fin 16) : Rows := fun t k => 1 - gates X L b n h t k
def decay (b n : ℕ) (h : Fin 16) : Rows := fun t k => Ideal.log (gates X L b n h t k)
def val (b n : ℕ) (h : Fin 16) : Rows := part X 8192 b n h

/-- Head `h`'s state in sequence `b` before chunk `n`. -/
def state (b : ℕ) (h : Fin 16) : ℕ → State
  | 0 => fun k d => s0 (ix3 h d k)
  | n + 1 => next (key X L b n h) (decay X L b n h) (val X b n h) (state b h n)

/-- Head `h`'s rows of chunk `n` of sequence `b`. -/
def out (b n : ℕ) (h : Fin 16) : Rows :=
  rows (query X b n h) (key X L b n h) (decay X L b n h) (val X b n h) (state X L s0 b h n)

/-- A row over its root mean square, scaled and gated. -/
def normed (o : Fin 128 → EReal) (d : Fin 128) (w g : EReal) : EReal :=
  o d * Ideal.rsqrt (Ideal.div (∑ x, o x * o x) (Ideal.ofBits .f32 0x43000000#32) + Ideal.ofBits .f32 0x358637BD#32)
    * w * silu g

/-- The result at row `t` of chunk `n` of sequence `b` and column `d` of head `h`. -/
def result (b n : ℕ) (h : Fin 16) (t : Fin 64) (d : Fin 128) : EReal :=
  normed (out X L s0 b n h t) d (ng (ix2 0 (wide h d))) (part X 10240 b n h t d)

/-- The whole result. -/
def array (i : (⟨2, ![16384, 2048]⟩ : Shape).Idx) : EReal :=
  result X L ng s0 ((i 0).val / 4096) ((i 0).val % 4096 / 64)
    ⟨(i 1).val / 128, by have h : (i 1).val < 2048 := (i 1).isLt; omega⟩ ⟨(i 0).val % 64, Nat.mod_lt _ (by decide)⟩
    ⟨(i 1).val % 128, Nat.mod_lt _ (by decide)⟩

end Cert.Branch

end
-- ==== Proof.Levels.lean ====
/- The kernel builds a chunk's decays and scores level by level, in blocks of 1, 2, 4, … 64 rows. Over decays that
   are real numbers, a block's total and a row's sum within its block are differences of one running sum, and the
   scores after the last level are those of every row against the rows up to it. -/
module

public import proofs.«01_k».proof.Proof.Block
public import proofs.«01_k».proof.Proof.Branch

@[expose] public section

set_option maxRecDepth 16384

noncomputable section

namespace Cert.KernelIdeal.Levels

open Cert.KernelIdeal Cert.KernelIdeal.Gen Cert.KernelIdeal.Block Idealize.ShloMosaic
open scoped BigOperators

/-! ### The masks -/

theorem upper_word : ∀ (j : Fin 6) (t : Fin 64),
    IntOp.cmpi .ne (IntOp.andi (BitVec.ofNat 32 t.val) (BitVec.ofNat 32 (2 ^ j.val))) 0#32
      = BitVec.ofBool (decide (t.val / 2 ^ j.val % 2 = 1)) := by
  decide +kernel

theorem upper_at {j : ℕ} (hj : j < 6) (t : Fin 64) (k : Fin 128) :
    Head.upper ι3 j (ix2 t k) = BitVec.ofBool (decide (t.val / 2 ^ j % 2 = 1)) := by
  refine Eq.trans ?_ (upper_word ⟨j, hj⟩ t)
  unfold Head.upper ι3
  pointwise

/-- `select` on a decided bit. -/
theorem select_ofBool {α : Type} (p : Prop) [Decidable p] (x y : α) :
    Scalar.select (BitVec.ofBool (decide p)) x y = if p then x else y := by
  by_cases h : p <;> simp [h, Scalar.select]

theorem floor_word : ∀ (j : Fin 6) (t : Fin 64), Head.floorDiv (fun _ => BitVec.ofNat 32 t.val)
    (BitVec.ofNat 32 (2 ^ (j.val + 1))) (ix2 0 0) = BitVec.ofNat 32 (t.val / 2 ^ (j.val + 1)) := by
  decide +kernel

theorem same_word : ∀ (a b : Fin 64), IntOp.cmpi .eq (BitVec.ofNat 32 a.val) (BitVec.ofNat 32 b.val)
    = BitVec.ofBool (decide (a.val = b.val)) := by
  decide +kernel

theorem same_at {j : ℕ} (hj : j < 6) (t s : Fin 64) :
    Head.sameBlock ι4 ι5 j (ix2 t s) = BitVec.ofBool (decide (t.val / 2 ^ (j + 1) = s.val / 2 ^ (j + 1))) := by
  have hb (u : Fin 64) : u.val / 2 ^ (j + 1) < 64 := lt_of_le_of_lt (Nat.div_le_self _ _) u.isLt
  refine Eq.trans ?_ (same_word ⟨_, hb t⟩ ⟨_, hb s⟩)
  rw [← floor_word ⟨j, hj⟩ t, ← floor_word ⟨j, hj⟩ s]
  unfold Head.sameBlock Head.floorDiv ι4 ι5
  pointwise

/-! ### The decays -/

/-- The running sum of column `k`: the first `n` rows. -/
def acc (lf : FVec Ideal S64x128 .f32) (k : Fin 128) (n : ℕ) : ℝ :=
  ∑ u ∈ Finset.range n, if h : u < 64 then (lf (ix2 ⟨u, h⟩ k)).toReal else 0

variable {lf : FVec Ideal S64x128 .f32} (hlf : ∀ t k, ∃ r : ℝ, lf (ix2 t k) = r)

include hlf in
theorem row_eq (t : Fin 64) (k : Fin 128) : lf (ix2 t k) = ((acc lf k (t.val + 1) - acc lf k t.val : ℝ) : EReal) := by
  obtain ⟨r, hr⟩ := hlf t k
  rw [acc, acc, Finset.sum_range_succ, add_sub_cancel_left, dif_pos t.isLt]
  show lf (ix2 t k) = ((lf (ix2 t k)).toReal : EReal)
  rw [hr]; rfl

/-- The rows the two rotations of level `j` bring to row `t`. -/
theorem rot_up : ∀ (j : Fin 6) (t : Fin 64), t.val / 2 ^ j.val % 2 = 1 → 2 ^ j.val ≤ t.val ∧
    (t.val + 64 - (BitVec.ofNat 32 (2 ^ j.val)).toNat % 64) % 64 = t.val - 2 ^ j.val := by decide +kernel
theorem rot_dn : ∀ (j : Fin 6) (t : Fin 64), ¬ t.val / 2 ^ j.val % 2 = 1 → t.val + 2 ^ j.val < 64 ∧
    (t.val + 64 - (BitVec.ofNat 32 (64 - 2 ^ j.val)).toNat % 64) % 64 = t.val + 2 ^ j.val := by decide +kernel

/-- An upper row's block is its own half and the half before it. -/
theorem level_up (lf : FVec Ideal S64x128 .f32) {j : ℕ} (hj : j < 6) (t : Fin 64) (k : Fin 128)
    (ht : t.val / 2 ^ j % 2 = 1) :
    Head.total ι3 lf (j + 1) (ix2 t k) = Head.total ι3 lf j (ix2 t k)
        + Head.total ι3 lf j (ix2 ⟨t.val - 2 ^ j, lt_of_le_of_lt (Nat.sub_le _ _) t.isLt⟩ k) ∧
      Head.prefixSum ι3 lf (j + 1) (ix2 t k) = Head.prefixSum ι3 lf j (ix2 t k)
        + Head.total ι3 lf j (ix2 ⟨t.val - 2 ^ j, lt_of_le_of_lt (Nat.sub_le _ _) t.isLt⟩ k) := by
  have hr : (⟨_, Nat.mod_lt _ (by decide)⟩ : Fin 64) = ⟨t.val - 2 ^ j, lt_of_le_of_lt (Nat.sub_le _ _) t.isLt⟩ := Fin.ext (rot_up ⟨j, hj⟩ t ht).2
  constructor
  · rw [Head.total.eq_2]
    pointwise
    rw [upper_at hj, select_ofBool, if_pos ht]
    exact congrArg (fun u => _ + Head.total ι3 lf j (ix2 u k)) hr
  · rw [Head.prefixSum.eq_2]
    pointwise
    rw [upper_at hj, select_ofBool, if_pos ht]
    exact congrArg (fun u => _ + Head.total ι3 lf j (ix2 u k)) hr

/-- A lower row's block is its own half and the half after it. -/
theorem level_dn (lf : FVec Ideal S64x128 .f32) {j : ℕ} (hj : j < 6) (t : Fin 64) (k : Fin 128)
    (ht : ¬ t.val / 2 ^ j % 2 = 1) :
    Head.total ι3 lf (j + 1) (ix2 t k) = Head.total ι3 lf j (ix2 t k)
        + Head.total ι3 lf j (ix2 ⟨t.val + 2 ^ j, (rot_dn ⟨j, hj⟩ t ht).1⟩ k) ∧
      Head.prefixSum ι3 lf (j + 1) (ix2 t k) = Head.prefixSum ι3 lf j (ix2 t k) := by
  have hr : (⟨_, Nat.mod_lt _ (by decide)⟩ : Fin 64) = ⟨t.val + 2 ^ j, (rot_dn ⟨j, hj⟩ t ht).1⟩ :=
    Fin.ext (rot_dn ⟨j, hj⟩ t ht).2
  constructor
  · rw [Head.total.eq_2]
    pointwise
    rw [upper_at hj, select_ofBool, if_neg ht]
    exact congrArg (fun u => _ + Head.total ι3 lf j (ix2 u k)) hr
  · rw [Head.prefixSum.eq_2]
    pointwise
    rw [upper_at hj, select_ofBool, if_neg ht, add_zero]

include hlf in
/-- A block's total, and a row's sum within its block, at every level. -/
theorem sums_eq (k : Fin 128) : ∀ j, j ≤ 6 → ∀ t : Fin 64,
    Head.total ι3 lf j (ix2 t k) = ((acc lf k (2 ^ j * (t.val / 2 ^ j) + 2 ^ j) - acc lf k (2 ^ j * (t.val / 2 ^ j)) : ℝ) : EReal) ∧
      Head.prefixSum ι3 lf j (ix2 t k) = ((acc lf k (t.val + 1) - acc lf k (2 ^ j * (t.val / 2 ^ j)) : ℝ) : EReal)
  | 0, _, t => by
    rw [Head.total.eq_1, Head.prefixSum.eq_1, pow_zero, one_mul, Nat.div_one]
    exact ⟨row_eq hlf t k, row_eq hlf t k⟩
  | j + 1, hj, t => by
    have ih := sums_eq k j (by omega)
    have hm : 0 < 2 ^ j := Nat.two_pow_pos j
    have hq : t.val / 2 ^ (j + 1) = t.val / 2 ^ j / 2 := by rw [pow_succ, Nat.div_div_eq_div_mul]
    by_cases ht : t.val / 2 ^ j % 2 = 1
    · obtain ⟨hT, hP⟩ := level_up lf (by omega : j < 6) t k ht
      obtain ⟨p, hp⟩ : ∃ p, t.val / 2 ^ j = 2 * p + 1 := ⟨t.val / 2 ^ j / 2, by omega⟩
      have hu : (t.val - 2 ^ j) / 2 ^ j = 2 * p := by
        have := Nat.sub_mul_div t.val (2 ^ j) 1
        rw [mul_one] at this
        rw [this, hp]; rfl
      rw [hT, hP, (ih _).1, (ih _).2, (ih _).1, hq, hp, ← EReal.coe_add, ← EReal.coe_add, EReal.coe_eq_coe_iff,
        EReal.coe_eq_coe_iff]
      dsimp only
      rw [hu, show (2 * p + 1) / 2 = p by omega, show 2 ^ j * (2 * p) + 2 ^ j = 2 ^ j * (2 * p + 1) by ring,
        show 2 ^ (j + 1) * p + 2 ^ (j + 1) = 2 ^ j * (2 * p + 1) + 2 ^ j by ring,
        show 2 ^ (j + 1) * p = 2 ^ j * (2 * p) by ring]
      constructor <;> ring
    · obtain ⟨hT, hP⟩ := level_dn lf (by omega : j < 6) t k ht
      obtain ⟨p, hp⟩ : ∃ p, t.val / 2 ^ j = 2 * p := ⟨t.val / 2 ^ j / 2, by omega⟩
      have hu : (t.val + 2 ^ j) / 2 ^ j = 2 * p + 1 := by rw [Nat.add_div_right _ hm, hp]
      rw [hT, hP, (ih _).1, (ih _).2, (ih _).1, hq, hp, ← EReal.coe_add, EReal.coe_eq_coe_iff, EReal.coe_eq_coe_iff]
      dsimp only
      rw [hu, show (2 * p) / 2 = p by omega, show 2 ^ j * (2 * p) + 2 ^ j = 2 ^ j * (2 * p + 1) by ring,
        show 2 ^ (j + 1) * p + 2 ^ (j + 1) = 2 ^ j * (2 * p + 1) + 2 ^ j by ring,
        show 2 ^ (j + 1) * p = 2 ^ j * (2 * p) by ring]
      constructor <;> ring

/-! ### The scores -/

theorem exp_coe (a : ℝ) : Ideal.exp (a : EReal) = ((Real.exp a : ℝ) : EReal) := rfl

/-- What a key column gives to the score of row `t` against row `s`. -/
def pair (qs kk lf : FVec Ideal S64x128 .f32) (t s : Fin 64) (k : Fin 128) : EReal :=
  qs (ix2 t k) * Ideal.exp ((acc lf k (t.val + 1) - acc lf k (s.val + 1) : ℝ) : EReal) * kk (ix2 s k)

include hlf in
/-- The score of an upper row against a row of the half before it. -/
theorem level_pos (qs kk : FVec Ideal S64x128 .f32) {j : ℕ} (hj : j < 6) (t s : Fin 64)
    (ht : t.val / 2 ^ j % 2 = 1) (hs : t.val / 2 ^ j = s.val / 2 ^ j + 1) :
    Head.levelScore ι3 qs kk lf j (ix2 t s) = ∑ k : Fin 128, pair qs kk lf t s k := by
  unfold Head.levelScore
  pointwise
  refine Finset.sum_congr rfl fun k _ => ?_
  have hs' : ¬ s.val / 2 ^ j % 2 = 1 := by omega
  rw [upper_at hj, upper_at hj, select_ofBool, select_ofBool, if_pos ht, if_neg hs', (sums_eq hlf k j hj.le t).2,
    (sums_eq hlf k j hj.le s).1, (sums_eq hlf k j hj.le s).2, ← EReal.coe_sub, exp_coe, exp_coe, hs, pair, exp_coe,
    mul_assoc, mul_assoc, mul_left_comm ((_ : ℝ) : EReal) (kk _), mul_comm _ (kk (ix2 s k)), mul_left_comm (qs _) (kk _), mul_left_comm (qs _) (kk _),
    ← EReal.coe_mul, ← Real.exp_add]
  congr 4
  rw [mul_add, mul_one]
  ring

/-- No score of a lower row, nor against an upper one. -/
theorem level_zero (qs kk : FVec Ideal S64x128 .f32) {j : ℕ} (hj : j < 6) (t s : Fin 64)
    (h : ¬ (t.val / 2 ^ j % 2 = 1 ∧ ¬ s.val / 2 ^ j % 2 = 1)) :
    Head.levelScore ι3 qs kk lf j (ix2 t s) = 0 := by
  unfold Head.levelScore
  pointwise
  refine Finset.sum_eq_zero fun k _ => ?_
  rw [upper_at hj, upper_at hj, select_ofBool, select_ofBool]
  split_ifs <;> first | rfl | exact absurd ⟨‹_›, ‹_›⟩ h

include hlf in
/-- The scores within blocks of `2 ^ j` rows. -/
theorem scores_eq (qs kk : FVec Ideal S64x128 .f32) (t s : Fin 64) : ∀ j, j ≤ 6 →
    Head.scores ι3 ι4 ι5 qs kk lf j (ix2 t s)
      = if t.val / 2 ^ j = s.val / 2 ^ j ∧ s ≤ t then ∑ k : Fin 128, pair qs kk lf t s k else 0
  | 0, _ => by
    rw [Head.scores.eq_1]
    unfold ι4 ι5
    pointwise
    rw [same_word, select_ofBool, pow_zero, Nat.div_one, Nat.div_one]
    by_cases h : t = s
    · subst h
      rw [if_pos rfl, if_pos ⟨rfl, le_refl _⟩]
      refine Finset.sum_congr rfl fun k _ => ?_
      rw [pair, sub_self, exp_coe, Real.exp_zero, EReal.coe_one, mul_one]
    · rw [if_neg (fun e => h (Fin.ext e)), if_neg (fun e => h (Fin.ext e.1))]
  | j + 1, hj => by
    have hjs : j < 6 := by omega
    rw [Head.scores.eq_2]
    pointwise
    rw [scores_eq qs kk t s j hjs.le, same_at hjs, select_ofBool]
    have hq (u : ℕ) : u / 2 ^ (j + 1) = u / 2 ^ j / 2 := by rw [pow_succ, Nat.div_div_eq_div_mul]
    rw [hq, hq]
    have hmono (h : s ≤ t) : s.val / 2 ^ j ≤ t.val / 2 ^ j := Nat.div_le_div_right h
    have hmono' (h : ¬ s ≤ t) : t.val / 2 ^ j ≤ s.val / 2 ^ j := Nat.div_le_div_right (not_le.1 h).le
    by_cases hst : s ≤ t
    · have := hmono hst
      by_cases h1 : t.val / 2 ^ j = s.val / 2 ^ j
      · rw [if_pos ⟨h1, hst⟩, level_zero qs kk hjs t s (by omega), ite_self, add_zero, if_pos ⟨by omega, hst⟩]
      · rw [if_neg (fun e => h1 e.1), zero_add]
        by_cases h2 : t.val / 2 ^ j / 2 = s.val / 2 ^ j / 2
        · rw [if_pos h2, if_pos ⟨h2, hst⟩]
          exact level_pos hlf qs kk hjs t s (by omega) (by omega)
        · rw [if_neg h2, if_neg (fun e => h2 e.1)]
    · have := hmono' hst
      rw [if_neg (fun e => hst e.2), zero_add]
      refine Eq.trans ?_ (if_neg (fun e => hst e.2)).symm
      by_cases h2 : t.val / 2 ^ j / 2 = s.val / 2 ^ j / 2
      · rw [if_pos h2]
        exact level_zero qs kk hjs t s (by omega)
      · rw [if_neg h2]

end Cert.KernelIdeal.Levels

end
-- ==== Proof.HeadValue.lean ====
/- One head of one chunk of the kernel, on the extended reals, is the branch's mathematics: its output rows and the
   state it leaves, for decays that are real numbers; and every decay is one when the gate's lower bound lies strictly
   between zero and one, whatever the logits. -/
module

public import proofs.«01_k».proof.Proof.Levels

@[expose] public section

set_option maxRecDepth 16384

noncomputable section

namespace Cert.KernelIdeal.Levels

open Cert.KernelIdeal Cert.KernelIdeal.Gen Cert.KernelIdeal.Block Idealize.ShloMosaic
open scoped BigOperators

/-! ### The decay is a real number -/

/-- The logistic function takes every extended real into the unit interval. -/
theorem logistic_real (x : EReal) : ∃ σ : ℝ, 0 ≤ σ ∧ Ideal.logistic x = (σ : EReal) := by
  unfold Ideal.logistic
  induction x using EReal.rec with
  | bot =>
    refine ⟨0, le_refl _, ?_⟩
    rw [EReal.neg_bot, show Ideal.exp ⊤ = ⊤ from rfl, ← EReal.coe_one, EReal.coe_add_top, Ideal.div,
      if_neg EReal.top_ne_zero, EReal.inv_top, mul_zero, EReal.coe_zero]
  | top =>
    refine ⟨1, zero_le_one, ?_⟩
    rw [EReal.neg_top, show Ideal.exp ⊥ = 0 from rfl, add_zero, Ideal.div, if_neg one_ne_zero, inv_one, mul_one,
      EReal.coe_one]
  | coe r =>
    refine ⟨1 / (1 + Real.exp (-r)), by positivity, ?_⟩
    have hne : ((1 + Real.exp (-r) : ℝ) : EReal) ≠ 0 := by
      rw [Ne, EReal.coe_eq_zero]; positivity
    rw [← EReal.coe_neg, show Ideal.exp ((-r : ℝ) : EReal) = ((Real.exp (-r) : ℝ) : EReal) from rfl, ← EReal.coe_one,
      ← EReal.coe_add, Ideal.div, if_neg hne, ← EReal.coe_inv, ← EReal.coe_mul, one_div, one_mul]

theorem decay_real {l : EReal} (hl : ∃ r : ℝ, 0 < r ∧ r < 1 ∧ l = r) (x : EReal) :
    ∃ r : ℝ, Ideal.log (Branch.gate l x) = r := by
  obtain ⟨r, h0, h1, rfl⟩ := hl
  obtain ⟨σ, hσ, e⟩ := logistic_real x
  have hpos : 0 < r + (1 - r) * σ := add_pos_of_pos_of_nonneg h0 (mul_nonneg (by linarith) hσ)
  refine ⟨Real.log (r + (1 - r) * σ), ?_⟩
  rw [Branch.gate, e, ← EReal.coe_one, ← EReal.coe_sub, ← EReal.coe_mul, ← EReal.coe_add]
  exact if_neg (not_le.2 hpos)

/-! ### A chunk -/

/-- A block of 64 rows by its coordinates. -/
def rowsOf (x : FVec Ideal S64x128 .f32) : Branch.Rows := fun t k => x (ix2 t k)
/-- A head's slab of the kernel's state, which is kept by value column and key column. -/
def stateOf (x : FVec Ideal S1x128x128 .f32) : Branch.State := fun k d => x (ix3 0 d k)

variable {lf : FVec Ideal S64x128 .f32} (hlf : ∀ t k, ∃ r : ℝ, lf (ix2 t k) = r)

include hlf in
theorem acc_eq (k : Fin 128) : ∀ n, n ≤ 64 →
    ∑ u : Fin 64, (if u.val < n then lf (ix2 u k) else 0) = ((acc lf k n : ℝ) : EReal)
  | 0, _ => by
    rw [acc, Finset.sum_range_zero, EReal.coe_zero]
    exact Finset.sum_eq_zero fun u _ => if_neg (Nat.not_lt_zero _)
  | n + 1, hn => by
    have hs : ∀ u : Fin 64, (if u.val < n + 1 then lf (ix2 u k) else 0)
        = (if u.val < n then lf (ix2 u k) else 0) + (if u = ⟨n, hn⟩ then lf (ix2 u k) else 0) := fun u => by
      rcases lt_trichotomy u.val n with h | h | h
      · rw [if_pos (by omega), if_pos h, if_neg (fun e => by rw [e] at h; exact lt_irrefl _ h), add_zero]
      · rw [if_pos (by omega), if_neg (by omega), if_pos (Fin.ext h), zero_add]
      · rw [if_neg (by omega), if_neg (by omega), if_neg (fun e => by rw [e] at h; exact lt_irrefl _ h), add_zero]
    rw [Finset.sum_congr rfl fun u _ => hs u, Finset.sum_add_distrib, acc_eq k n (by omega), Finset.sum_ite_eq',
      if_pos (Finset.mem_univ _), row_eq hlf ⟨n, hn⟩ k, ← EReal.coe_add, EReal.coe_eq_coe_iff]
    ring

include hlf in
theorem cum_eq (t : Fin 64) (k : Fin 128) : Branch.cum (rowsOf lf) t k = ((acc lf k (t.val + 1) : ℝ) : EReal) := by
  rw [← acc_eq hlf k (t.val + 1) t.isLt, Branch.cum]
  refine Finset.sum_congr rfl fun u _ => ?_
  by_cases h : u ≤ t
  · rw [if_pos h, if_pos (Nat.lt_succ_of_le h)]; rfl
  · rw [if_neg h, if_neg (fun e => h (Nat.le_of_lt_succ e))]

include hlf in
theorem last_sums (t : Fin 64) (k : Fin 128) :
    Head.total ι3 lf 6 (ix2 t k) = Branch.cum (rowsOf lf) 63 k ∧
      Head.prefixSum ι3 lf 6 (ix2 t k) = Branch.cum (rowsOf lf) t k := by
  have h := sums_eq hlf k 6 (le_refl _) t
  have ht : t.val / 2 ^ 6 = 0 := Nat.div_eq_of_lt t.isLt
  have h0 : acc lf k 0 = 0 := rfl
  rw [ht, Nat.mul_zero, Nat.zero_add, h0, sub_zero, sub_zero] at h
  exact ⟨h.1.trans (cum_eq hlf 63 k).symm, h.2.trans (cum_eq hlf t k).symm⟩

include hlf in
theorem score_eq (qs kk : FVec Ideal S64x128 .f32) (t s : Fin 64) :
    Head.scores ι3 ι4 ι5 qs kk lf 6 (ix2 t s) = Branch.score (rowsOf qs) (rowsOf kk) (rowsOf lf) t s := by
  have h0 (u : Fin 64) : u.val / 2 ^ 6 = 0 := Nat.div_eq_of_lt u.isLt
  rw [scores_eq hlf qs kk t s 6 (le_refl _), h0, h0, Branch.score]
  by_cases h : s ≤ t
  · rw [if_pos ⟨rfl, h⟩]
    refine Finset.sum_congr rfl fun k _ => ?_
    rw [if_pos h, cum_eq hlf, cum_eq hlf, ← EReal.coe_sub]
    rfl
  · rw [if_neg (fun e => h e.2)]
    refine (Finset.sum_eq_zero fun k _ => ?_).symm
    rw [if_neg h, show Ideal.exp ⊥ = 0 from rfl, mul_zero, zero_mul]

include hlf in
/-- The kernel's output rows of a chunk. -/
theorem rows_eq (qs kk : FVec Ideal S64x128 .f32) (v : FVec Ideal S64x128 .bf16) (st : FVec Ideal S1x128x128 .f32)
    (t : Fin 64) (d : Fin 128) : Head.rows (F := Ideal) ι3 ι4 ι5 qs kk lf v st (ix2 t d)
      = Branch.rows (rowsOf qs) (rowsOf kk) (rowsOf lf) (rowsOf v) (stateOf st) t d := by
  unfold Head.rows
  pointwise
  refine congrArg₂ (· + ·) (Finset.sum_congr rfl fun s _ => ?_) (Finset.sum_congr rfl fun k _ => ?_)
  · rw [score_eq hlf]; rfl
  · rw [(last_sums hlf t k).2]; rfl

include hlf in
/-- The state it leaves. -/
theorem next_eq (kk : FVec Ideal S64x128 .f32) (v : FVec Ideal S64x128 .bf16) (st : FVec Ideal S1x128x128 .f32)
    (k d : Fin 128) : Head.nextState (F := Ideal) ι3 kk lf v st (ix3 0 d k)
      = Branch.next (rowsOf kk) (rowsOf lf) (rowsOf v) (stateOf st) k d := by
  unfold Head.nextState
  pointwise
  refine congrArg₂ (· + ·) ?_ (Finset.sum_congr rfl fun s _ => ?_)
  · rw [(last_sums hlf 0 k).1, mul_comm]; rfl
  · rw [(last_sums hlf s k).1, (last_sums hlf s k).2, mul_comm]; rfl

end Cert.KernelIdeal.Levels

end
-- ==== Proof.Window.lean ====
/- A running sum that prints as a sum over windows padded low, on the extended reals: along the rows of chunks held by
   sequence and head, and the first row of a sum down two rows. -/
module

public import Idealize.ShloMosaic.Lib.Pointwise
public import Idealize.ShloMosaic.PureOps.Ideal

@[expose] public section

set_option maxRecDepth 16384

noncomputable section

namespace Cert.Window

open Idealize.ShloMosaic
open scoped BigOperators

theorem foldl_add {α : Type} (f : α → EReal) : ∀ (l : List α) (v : EReal),
    l.foldl (fun r n => r + f n) v = v + (l.map f).sum
  | [], v => (add_zero v).symm
  | a :: l, v => by rw [List.foldl_cons, foldl_add f l, List.map_cons, List.sum_cons, add_assoc]

/-- A sum over windows, its initial value zero, is the sum of what lies under the window. -/
theorem windowAdd_apply {s t u : Shape} (window strides lo hi : Fin s.rank → ℕ) (x : s.Idx → EReal) (init : u.Idx → EReal)
    (h : s.ReduceWindows window strides lo hi t) (hu : 0 < u.numel) (j : t.Idx) (h0 : init (Shape.Idx.first hu) = 0) :
    Host.reduceWindowAdd (F := Ideal) (φ := .f32) window strides lo hi x init h hu j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨_, (hin a).2⟩) else 0 := by
  have e : Host.reduceWindowAdd (F := Ideal) (φ := .f32) window strides lo hi x init h hu j
      = Host.reduceWindow (· + ·) window strides lo hi x (fun _ : (⟨0, ![]⟩ : Shape).Idx => init (Shape.Idx.first hu)) h (by decide) j := rfl
  rw [e, h0]
  unfold Host.reduceWindow
  refine (foldl_add _ _ _).trans ?_
  rw [zero_add, ← List.ofFn_eq_map, List.sum_ofFn]
  refine Eq.trans (Finset.sum_congr rfl fun n _ => ?_) (Equiv.sum_comp (⟨s.rank, window⟩ : Shape).rowMajor.symm (fun w : (⟨s.rank, window⟩ : Shape).Idx =>
    if hin : ∀ a, lo a ≤ (j (a.cast h.1.symm)).val * strides a + (w a).val
      ∧ (j (a.cast h.1.symm)).val * strides a + (w a).val - lo a < s.size a then x (fun a => ⟨_, (hin a).2⟩) else 0))
  split <;> rfl

/-- The running sum along the rows of a chunk. -/
theorem cumsum_rows (x : (⟨4, ![4, 16, 64, 128]⟩ : Shape).Idx → EReal) (init : (⟨0, ![]⟩ : Shape).Idx → EReal)
    (h : (⟨4, ![4, 16, 64, 128]⟩ : Shape).ReduceWindows ![1, 1, 64, 1] ![1, 1, 1, 1] ![0, 0, 63, 0] ![0, 0, 0, 0]
      ⟨4, ![4, 16, 64, 128]⟩) (hu : 0 < (⟨0, ![]⟩ : Shape).numel) (h0 : init (Shape.Idx.first hu) = 0)
    (b : Fin 4) (a : Fin 16) (t : Fin 64) (k : Fin 128) :
    Host.reduceWindowAdd (F := Ideal) (φ := .f32) ![1, 1, 64, 1] ![1, 1, 1, 1] ![0, 0, 63, 0] ![0, 0, 0, 0] x init h hu
      (ix4 b a t k) = ∑ u : Fin 64, if u ≤ t then x (ix4 b a u k) else 0 := by
  rw [windowAdd_apply _ _ _ _ _ _ _ _ _ h0, ← Equiv.sum_comp (Equiv.addLeft (t + 1))
    (fun u : Fin 64 => if u ≤ t then x (ix4 b a u k) else 0)]
  refine (sum_idx4 (n0 := 1) (n1 := 1) (n2 := 64) (n3 := 1) _).trans ?_
  rw [Fin.sum_univ_one, Fin.sum_univ_one]
  refine Finset.sum_congr rfl fun w _ => ?_
  rw [Fin.sum_univ_one]
  have hw := w.isLt
  have ht := t.isLt
  have hval : (Equiv.addLeft (t + 1) w).val = (t.val + w.val + 1) % 64 := by
    show ((t + 1 : Fin 64) + w).val = _
    rw [Fin.val_add, Fin.val_add]
    show ((t.val + 1) % 64 + w.val) % 64 = _
    omega
  by_cases hc : 63 ≤ t.val + w.val
  · have hle : Equiv.addLeft (t + 1) w ≤ t := by
      show (Equiv.addLeft (t + 1) w).val ≤ t.val
      rw [hval]; omega
    rw [if_pos hle, dif_pos]
    · refine congrArg x (funext fun i => Fin.ext ?_)
      match i with
      | ⟨0, _⟩ => show b.val * 1 + 0 - 0 = b.val; omega
      | ⟨1, _⟩ => show a.val * 1 + 0 - 0 = a.val; omega
      | ⟨2, _⟩ =>
        show t.val * 1 + w.val - 63 = (Equiv.addLeft (t + 1) w).val
        rw [hval]; omega
      | ⟨3, _⟩ => show k.val * 1 + 0 - 0 = k.val; omega
    · intro i
      match i with
      | ⟨0, _⟩ => exact show 0 ≤ b.val * 1 + 0 ∧ b.val * 1 + 0 - 0 < 4 by omega
      | ⟨1, _⟩ => exact show 0 ≤ a.val * 1 + 0 ∧ a.val * 1 + 0 - 0 < 16 by omega
      | ⟨2, _⟩ => exact show 63 ≤ t.val * 1 + w.val ∧ t.val * 1 + w.val - 63 < 64 by omega
      | ⟨3, _⟩ => exact show 0 ≤ k.val * 1 + 0 ∧ k.val * 1 + 0 - 0 < 128 by omega
  · have hle : ¬ Equiv.addLeft (t + 1) w ≤ t := by
      show ¬ (Equiv.addLeft (t + 1) w).val ≤ t.val
      rw [hval]; omega
    rw [if_neg hle, dif_neg]
    intro hin
    have h2 : 63 ≤ t.val * 1 + w.val := (hin 2).1
    omega

/-- The first row of the running sum down two rows is the first row. -/
theorem cumsum_first (x : (⟨2, ![2, 2048]⟩ : Shape).Idx → EReal) (init : (⟨0, ![]⟩ : Shape).Idx → EReal)
    (h : (⟨2, ![2, 2048]⟩ : Shape).ReduceWindows ![2, 1] ![1, 1] ![1, 0] ![0, 0] ⟨2, ![2, 2048]⟩)
    (hu : 0 < (⟨0, ![]⟩ : Shape).numel) (h0 : init (Shape.Idx.first hu) = 0) (j : Fin 2048) :
    Host.reduceWindowAdd (F := Ideal) (φ := .f32) ![2, 1] ![1, 1] ![1, 0] ![0, 0] x init h hu (ix2 0 j) = x (ix2 0 j) := by
  rw [windowAdd_apply _ _ _ _ _ _ _ _ _ h0]
  refine (sum_idx2 (n0 := 2) (n1 := 1) _).trans ?_
  rw [Fin.sum_univ_two, Fin.sum_univ_one, Fin.sum_univ_one, dif_neg, dif_pos, zero_add]
  · refine congrArg x (funext fun i => Fin.ext ?_)
    match i with
    | ⟨0, _⟩ => rfl
    | ⟨1, _⟩ => show j.val * 1 + 0 - 0 = j.val; omega
  · intro i
    match i with
    | ⟨0, _⟩ => exact show 1 ≤ 0 * 1 + 1 ∧ 0 * 1 + 1 - 1 < 2 by omega
    | ⟨1, _⟩ => exact show 0 ≤ j.val * 1 + 0 ∧ j.val * 1 + 0 - 0 < 2048 by omega
  · intro hin
    have h0 : 1 ≤ 0 * 1 + 0 := (hin 0).1
    omega

end Cert.Window

end
-- ==== Proof.LowerBound.lean ====
/- The lower bound of the forget gate: the first row of a softmax down two rows of logits. Of finite logits it lies
   strictly between zero and one. -/
module

public import proofs.«01_k».proof.Proof.Window
public import proofs.«01_k».proof.Proof.Levels

@[expose] public section

set_option maxRecDepth 16384

noncomputable section

namespace Cert.LowerBound

open Cert.KernelIdeal
open Idealize.ShloMosaic
open scoped BigOperators

abbrev Logits : Shape := ⟨2, ![2, 2048]⟩
abbrev Row : Shape := ⟨1, ![2048]⟩
abbrev Flat : Shape := ⟨2, ![1, 2048]⟩
abbrev Scalar0 : Shape := ⟨0, ![]⟩

/-- The word of minus infinity. -/
theorem word_bot : Ideal.ofBits .f32 0xFF800000#32 = ⊥ := by simp [Ideal.ofBits, Ideal.ieee]
/-- The word of infinity. -/
theorem word_top : Ideal.ofBits .f32 0x7F800000#32 = ⊤ := by simp [Ideal.ofBits, Ideal.ieee]

/-- The larger logit of a column. -/
def peak (x : Logits.Idx → EReal) (j : Fin 2048) : EReal := max (x (ix2 0 j)) (x (ix2 1 j))
/-- A column's softmax at its first row. -/
def low (x : Logits.Idx → EReal) (j : Fin 2048) : EReal :=
  Ideal.div (Ideal.exp (x (ix2 0 j) - peak x j)) (Ideal.exp (x (ix2 0 j) - peak x j) + Ideal.exp (x (ix2 1 j) - peak x j))

section
variable (hred : Logits.ReducesTo [0] Row) (hs : 0 < Scalar0.numel) (hb0 : Scalar0.BroadcastsInDim Row ![])
  (hb1 : Row.BroadcastsInDim Flat ![1]) (hb2 : Flat.BroadcastsInDim Logits ![0, 1]) (hbs : Scalar0.BroadcastsInDim Scalar0 ![])
  (hw : Logits.ReduceWindows ![2, 1] ![1, 1] ![1, 0] ![0, 0] Logits)

theorem shifted_at (x : FVec Ideal Logits .f32) (i : Fin 2) (j : Fin 2048) :
    (broadcastInDim Logits ![0, 1] hb2 (broadcastInDim Flat ![1] hb1
      (maximumf (broadcastInDim Row ![] hb0 (constant (F := Ideal) Scalar0 .f32 4286578688#32))
        (Host.reduce FloatOps.maximumf x (constant (F := Ideal) Scalar0 .f32 4286578688#32) hred hs)))) (ix2 i j) = peak x j := by
  pointwise
  unfold peak
  rw [show (Finset.univ : Finset (Fin 2)) = {0, 1} from rfl, Finset.fold_insert (by decide), Finset.fold_singleton, word_bot]
  simp

/-- A program's softmax, summed down the rows and read at the first one. -/
theorem first_row (x : FVec Ideal Logits .f32) (j : Fin 2048) :
    Host.reduceWindowAdd (F := Ideal) (φ := .f32) ![2, 1] ![1, 1] ![1, 0] ![0, 0]
      (Host.divf (Host.exp (subf x (broadcastInDim Logits ![0, 1] hb2 (broadcastInDim Flat ![1] hb1
          (maximumf (broadcastInDim Row ![] hb0 (constant (F := Ideal) Scalar0 .f32 4286578688#32))
            (Host.reduce FloatOps.maximumf x (constant (F := Ideal) Scalar0 .f32 4286578688#32) hred hs))))))
        (broadcastInDim Logits ![0, 1] hb2 (broadcastInDim Flat ![1] hb1
          (Host.reduceAdd (Host.exp (subf x (broadcastInDim Logits ![0, 1] hb2 (broadcastInDim Flat ![1] hb1
            (maximumf (broadcastInDim Row ![] hb0 (constant (F := Ideal) Scalar0 .f32 4286578688#32))
              (Host.reduce FloatOps.maximumf x (constant (F := Ideal) Scalar0 .f32 4286578688#32) hred hs))))))
            (constant (F := Ideal) Scalar0 .f32 0#32) hred hs))))
      (broadcastInDim Scalar0 ![] hbs (constant (F := Ideal) Scalar0 .f32 0#32)) hw hs (ix2 0 j) = low x j := by
  rw [Window.cumsum_first _ _ _ _ (by pointwise)]
  have e := shifted_at hred hs hb0 hb1 hb2 x
  generalize broadcastInDim Logits ![0, 1] hb2 (broadcastInDim Flat ![1] hb1
      (maximumf (broadcastInDim Row ![] hb0 (constant (F := Ideal) Scalar0 .f32 4286578688#32))
        (Host.reduce FloatOps.maximumf x (constant (F := Ideal) Scalar0 .f32 4286578688#32) hred hs))) = y at e ⊢
  pointwise
  rw [e, Fin.sum_univ_two, e, e]
  simp [low]
end

/-- Of finite logits it is a real strictly between zero and one. -/
theorem low_real (x : Logits.Idx → EReal) (hx : ∀ i j, ∃ r : ℝ, x (ix2 i j) = r) (j : Fin 2048) :
    ∃ r : ℝ, 0 < r ∧ r < 1 ∧ low x j = r := by
  obtain ⟨a, ha⟩ := hx 0 j
  obtain ⟨b, hb⟩ := hx 1 j
  have hp : ∃ p : ℝ, peak x j = p := by
    unfold peak
    rw [ha, hb]
    exact ⟨max a b, (EReal.coe_strictMono.monotone.map_max).symm⟩
  obtain ⟨p, hp⟩ := hp
  have h0 := Real.exp_pos (a - p)
  have h1 := Real.exp_pos (b - p)
  refine ⟨Real.exp (a - p) / (Real.exp (a - p) + Real.exp (b - p)), by positivity,
    (div_lt_one (by positivity)).mpr (by linarith), ?_⟩
  unfold low
  rw [ha, hb, hp, ← EReal.coe_sub, ← EReal.coe_sub, Levels.exp_coe, Levels.exp_coe, ← EReal.coe_add, Ideal.div,
    if_neg (by exact_mod_cast (by positivity : Real.exp (a - p) + Real.exp (b - p) ≠ 0)), ← EReal.coe_inv, ← EReal.coe_mul,
    div_eq_mul_inv]

end Cert.LowerBound

end
-- ==== Proof.BlockValue.lean ====
/- What the kernel's run leaves in the output array: its blocks read off the arguments, a head of a chunk, the state as it
   is carried over the chunks of a sequence, and the whole array. -/
module

public import proofs.«01_k».proof.Proof.Frame
public import proofs.«01_k».proof.Proof.HeadValue
public import proofs.«01_k».proof.Proof.LowerBound
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Block

open Cert.KernelIdeal Cert.KernelIdeal.Gen
open Idealize.ShloMosaic Idealize.ShloMosaic.TcCoe

variable (m : (ℓ : Loc nD τ sig) → Buf (Elt Ideal) ℓ)

/-- The arguments as arrays of extended reals, and the gate's lower bounds. -/
abbrev proj (c : Dev nD) : (⟨2, ![16384, 16384]⟩ : Shape).Idx → EReal := m ((c : Thread nD τ).loc main_arg0)
abbrev logits (c : Dev nD) : (⟨2, ![2, 2048]⟩ : Shape).Idx → EReal := m ((c : Thread nD τ).loc main_arg1)
abbrev weights (c : Dev nD) : (⟨2, ![1, 2048]⟩ : Shape).Idx → EReal := m ((c : Thread nD τ).loc main_arg2)
abbrev start (c : Dev nD) : (⟨3, ![16, 128, 128]⟩ : Shape).Idx → EReal := m ((c : Thread nD τ).loc main_arg3)
abbrev bound (c : Dev nD) : Fin 2048 → EReal := LowerBound.low (logits m c)

/-! ### The blocks -/

theorem index_facts : ∀ t : Fin cfg0.N, win0_0.index t = ![t.val, 2] ∧ win0_1.index t = ![t.val, 3]
    ∧ win0_2.index t = ![t.val, 4] ∧ win0_3.index t = ![t.val, 5] ∧ win0_4.index t = ![0, 0] ∧ win0_5.index t = ![0, 0]
    ∧ win0_6.index t = ![0, 0, 0] ∧ win0_7.index t = ![t.val, 0] := by
  decide +kernel

theorem point_lt (t : Fin cfg0.N) : t.val < 64 := t.isLt

/-- The chunk of its sequence that chunk `k` of point `t`'s block is. -/
abbrev turn (t : Fin cfg0.N) (k : Fin 4) : ℕ := 4 * (t.val % 16) + k.val

theorem bound_array (c : Dev nD) (j : Fin 2048) : (V m c main_v15 (ix2 0 j) : EReal) = bound m c j := by
  unfold V
  after_reads_at
  exact LowerBound.first_row _ _ _ _ _ _ _ _ _

theorem norm_array (c : Dev nD) (j : Fin 2048) : (V m c main_v16 (ix2 0 j) : EReal) = weights m c (ix2 0 j) := by
  unfold V
  after_reads_at
  try rfl

/-- An entry of the argument by the row and column it lies at. -/
theorem read_part (c : Dev nD) (t : Fin cfg0.N) (k : Fin 4) (h : Fin 16) (r : Fin 64) (d : Fin 128) (off : ℕ)
    (hoff : off ≤ 14336) (y : (⟨2, ![16384, 16384]⟩ : Shape).Idx) (h0 : (y 0).val = t.val * 256 + (64 * k.val + 1 * r.val))
    (h1 : (y 1).val = off + (128 * h.val + 1 * d.val)) :
    proj m c y = Branch.part (proj m c) off (t.val / 16) (turn t k) h r d := by
  have ht := point_lt t
  refine congrArg (proj m c) (funext fun a => Fin.ext ?_)
  match a with
  | ⟨0, _⟩ =>
    show (y 0).val = (4096 * (t.val / 16) + 64 * (4 * (t.val % 16) + k.val) + r.val) % 16384
    omega
  | ⟨1, _⟩ =>
    show (y 1).val = (off + 128 * h.val + d.val) % 16384
    omega

theorem emb_0 (t : Fin cfg0.N) (y : S256x2048.Idx) : (((cfg0.win 0).blk t).view.emb y 0).val = t.val * 256 + (y 0).val
    ∧ (((cfg0.win 0).blk t).view.emb y 1).val = 4096 + (y 1).val := by
  have e := (index_facts t).1
  constructor <;> blk_simp [e]
theorem emb_1 (t : Fin cfg0.N) (y : S256x2048.Idx) : (((cfg0.win 1).blk t).view.emb y 0).val = t.val * 256 + (y 0).val
    ∧ (((cfg0.win 1).blk t).view.emb y 1).val = 6144 + (y 1).val := by
  have e := (index_facts t).2.1
  constructor <;> blk_simp [e]
theorem emb_2 (t : Fin cfg0.N) (y : S256x2048.Idx) : (((cfg0.win 2).blk t).view.emb y 0).val = t.val * 256 + (y 0).val
    ∧ (((cfg0.win 2).blk t).view.emb y 1).val = 8192 + (y 1).val := by
  have e := (index_facts t).2.2.1
  constructor <;> blk_simp [e]
theorem emb_3 (t : Fin cfg0.N) (y : S256x2048.Idx) : (((cfg0.win 3).blk t).view.emb y 0).val = t.val * 256 + (y 0).val
    ∧ (((cfg0.win 3).blk t).view.emb y 1).val = 10240 + (y 1).val := by
  have e := (index_facts t).2.2.2.1
  constructor <;> blk_simp [e]
theorem emb_4 (t : Fin cfg0.N) (y : S1x2048.Idx) : ((cfg0.win 4).blk t).view.emb y = y := by
  have e := (index_facts t).2.2.2.2.1
  funext a
  match a with
  | ⟨0, _⟩ => exact Fin.ext (by blk_simp [e])
  | ⟨1, _⟩ => exact Fin.ext (by blk_simp [e])
theorem emb_5 (t : Fin cfg0.N) (y : S1x2048.Idx) : ((cfg0.win 5).blk t).view.emb y = y := by
  have e := (index_facts t).2.2.2.2.2.1
  funext a
  match a with
  | ⟨0, _⟩ => exact Fin.ext (by blk_simp [e])
  | ⟨1, _⟩ => exact Fin.ext (by blk_simp [e])
theorem emb_6 (t : Fin cfg0.N) (y : S16x128x128.Idx) : ((cfg0.win 6).blk t).view.emb y = y := by
  have e := (index_facts t).2.2.2.2.2.2.1
  funext a
  match a with
  | ⟨0, _⟩ => exact Fin.ext (by blk_simp [e])
  | ⟨1, _⟩ => exact Fin.ext (by blk_simp [e])
  | ⟨2, _⟩ => exact Fin.ext (by blk_simp [e])

/-- A block of the argument, read where a chunk and a head lie in it. -/
theorem query_block (c : Dev nD) (t : Fin cfg0.N) (k : Fin 4) (h : Fin 16) (r : Fin 64) (d : Fin 128) :
    chunk (qBlk m c t) k h (ix2 r d) = Branch.part (proj m c) 4096 (t.val / 16) (turn t k) h r d := by
  have e : ∀ y, qBlk m c t y = proj m c (((cfg0.win 0).blk t).view.emb y) := fun y => congrFun (V_main_arg0 m c) _
  unfold chunk
  rw [e]
  exact read_part m c t k h r d 4096 (by decide) _ (emb_0 t _).1 (emb_0 t _).2
theorem forget_block (c : Dev nD) (t : Fin cfg0.N) (k : Fin 4) (h : Fin 16) (r : Fin 64) (d : Fin 128) :
    chunk (fBlk m c t) k h (ix2 r d) = Branch.part (proj m c) 6144 (t.val / 16) (turn t k) h r d := by
  have e : ∀ y, fBlk m c t y = proj m c (((cfg0.win 1).blk t).view.emb y) := fun y => congrFun (V_main_arg0 m c) _
  unfold chunk
  rw [e]
  exact read_part m c t k h r d 6144 (by decide) _ (emb_1 t _).1 (emb_1 t _).2
theorem value_block (c : Dev nD) (t : Fin cfg0.N) (k : Fin 4) (h : Fin 16) (r : Fin 64) (d : Fin 128) :
    chunk (vBlk m c t) k h (ix2 r d) = Branch.part (proj m c) 8192 (t.val / 16) (turn t k) h r d := by
  have e : ∀ y, vBlk m c t y = proj m c (((cfg0.win 2).blk t).view.emb y) := fun y => congrFun (V_main_arg0 m c) _
  unfold chunk
  rw [e]
  exact read_part m c t k h r d 8192 (by decide) _ (emb_2 t _).1 (emb_2 t _).2
theorem output_block (c : Dev nD) (t : Fin cfg0.N) (k : Fin 4) (h : Fin 16) (r : Fin 64) (d : Fin 128) :
    chunk (gBlk m c t) k h (ix2 r d) = Branch.part (proj m c) 10240 (t.val / 16) (turn t k) h r d := by
  have e : ∀ y, gBlk m c t y = proj m c (((cfg0.win 3).blk t).view.emb y) := fun y => congrFun (V_main_arg0 m c) _
  unfold chunk
  rw [e]
  exact read_part m c t k h r d 10240 (by decide) _ (emb_3 t _).1 (emb_3 t _).2

/-- A row of parameters, read where a head's columns lie in it. -/
theorem lane_emb (h : Fin 16) (d : Fin 128) :
    (Rect.unit (s := S1x2048) ![0, 128 * h.val] S1x128.size (cols_inb h)).emb (ix2 0 d) = ix2 0 (Branch.wide h d) := by
  funext a
  match a with
  | ⟨0, _⟩ => rfl
  | ⟨1, _⟩ => exact Fin.ext (show 128 * h.val + 1 * d.val = 128 * h.val + d.val by omega)

theorem bound_block (c : Dev nD) (t : Fin cfg0.N) (h : Fin 16) (d : Fin 128) :
    lane (lbBlk m c t) h (ix2 0 d) = bound m c (Branch.wide h d) := by
  unfold lane
  rw [lane_emb]
  refine Eq.trans ?_ (bound_array m c (Branch.wide h d))
  exact congrArg (V m c main_v15) (emb_4 t _)

theorem norm_block (c : Dev nD) (t : Fin cfg0.N) (h : Fin 16) (d : Fin 128) :
    lane (ngBlk m c t) h (ix2 0 d) = weights m c (ix2 0 (Branch.wide h d)) := by
  unfold lane
  rw [lane_emb]
  refine Eq.trans ?_ (norm_array m c (Branch.wide h d))
  exact congrArg (V m c main_v16) (emb_5 t _)

theorem start_block (c : Dev nD) (t : Fin cfg0.N) (h : Fin 16) (d k : Fin 128) :
    slab (s0Blk m c t) h (ix3 0 d k) = start m c (ix3 h d k) := by
  have e : ∀ y, s0Blk m c t y = start m c (((cfg0.win 6).blk t).view.emb y) := fun y => congrFun (V_main_arg3 m c) _
  unfold slab
  rw [e, emb_6]
  refine congrArg (start m c) (funext fun a => Fin.ext ?_)
  match a with
  | ⟨0, _⟩ => show h.val + 1 * 0 = h.val; omega
  | ⟨1, _⟩ => show 0 + 1 * d.val = d.val; omega
  | ⟨2, _⟩ => show 0 + 1 * k.val = k.val; omega

/-! ### A head of a chunk -/

section
open Levels
variable (c : Dev nD) (hL : ∀ j, ∃ r : ℝ, 0 < r ∧ r < 1 ∧ bound m c j = r) (t : Fin cfg0.N) (k : Fin 4) (h : Fin 16)

theorem query_rows : rowsOf (Head.silu (chunk (qBlk m c t) k h)) = Branch.query (proj m c) (t.val / 16) (turn t k) h := by
  funext r d
  unfold rowsOf Branch.query
  rw [← query_block]
  pointwise [Head.silu]
  rfl
theorem decay_rows : rowsOf (Head.logGate (lane (lbBlk m c t) h) (chunk (fBlk m c t) k h))
    = Branch.decay (proj m c) (bound m c) (t.val / 16) (turn t k) h := by
  funext r d
  unfold rowsOf Branch.decay Branch.gates
  rw [← forget_block, ← bound_block m c t]
  pointwise [Head.logGate, Head.gate]
  rfl
theorem key_rows : rowsOf (Head.key (lane (lbBlk m c t) h) (chunk (fBlk m c t) k h))
    = Branch.key (proj m c) (bound m c) (t.val / 16) (turn t k) h := by
  funext r d
  unfold rowsOf Branch.key Branch.gates
  rw [← forget_block, ← bound_block m c t]
  pointwise [Head.key, Head.gate]
  rfl
theorem value_rows : rowsOf (chunk (vBlk m c t) k h) = Branch.val (proj m c) (t.val / 16) (turn t k) h := by
  funext r d
  exact value_block m c t k h r d

include hL in
theorem decay_finite (r : Fin 64) (d : Fin 128) :
    ∃ x : ℝ, Head.logGate (lane (lbBlk m c t) h) (chunk (fBlk m c t) k h) (ix2 r d) = x := by
  obtain ⟨x, hx⟩ := decay_real (hL (Branch.wide h d)) (Branch.part (proj m c) 6144 (t.val / 16) (turn t k) h r d)
  exact ⟨x, (congrFun (congrFun (decay_rows m c t k h) r) d).trans hx⟩

include hL in
/-- One chunk takes the carried state from the state before it to the state after it. -/
theorem chunk_next (S : Vec Ideal S16x128x128 .f32)
    (hS : stateOf (slab S h) = Branch.state (proj m c) (bound m c) (start m c) (t.val / 16) h (turn t k)) :
    stateOf (slab (chunkState (fBlk m c t) (vBlk m c t) (lbBlk m c t) S k) h)
      = Branch.state (proj m c) (bound m c) (start m c) (t.val / 16) h (turn t k + 1) := by
  funext i d
  unfold stateOf slab chunkState
  rw [(slab_emb h _).1, (slab_emb h _).2]
  unfold headState Head.outState
  rw [next_eq (decay_finite m c hL t k h), key_rows, decay_rows, value_rows, hS]
  rfl

include hL in
theorem after_chunks (S : Vec Ideal S16x128x128 .f32)
    (hS : ∀ h, stateOf (slab S h) = Branch.state (proj m c) (bound m c) (start m c) (t.val / 16) h (4 * (t.val % 16))) :
    ∀ n, n ≤ 4 → ∀ h, stateOf (slab (stateAfter (fBlk m c t) (vBlk m c t) (lbBlk m c t) S n) h)
      = Branch.state (proj m c) (bound m c) (start m c) (t.val / 16) h (4 * (t.val % 16) + n)
  | 0, _, h => hS h
  | n + 1, hn, h => by
    have e := stateAfter_succ (fBlk m c t) (vBlk m c t) (lbBlk m c t) S ⟨n, hn⟩
    rw [e]
    exact chunk_next m c hL t ⟨n, hn⟩ h _ (after_chunks S hS n (Nat.le_of_succ_le hn) h)

include hL in
/-- The state a point starts from is the state of its sequence before its first chunk. -/
theorem entry_state : ∀ (n : ℕ) (hn : n < cfg0.N) (h : Fin 16), stateOf (slab (entry m c ⟨n, hn⟩) h)
    = Branch.state (proj m c) (bound m c) (start m c) (n / 16) h (4 * (n % 16)) := by
  have first : ∀ (n : ℕ) (hn : n < cfg0.N) (h : Fin 16), n % 16 = 0 → stateOf (slab (entry m c ⟨n, hn⟩) h)
      = Branch.state (proj m c) (bound m c) (start m c) (n / 16) h (4 * (n % 16)) := fun n hn h h0 => by
    rw [entry_start m c ⟨n, hn⟩ h0, h0]
    funext i d
    exact start_block m c ⟨n, hn⟩ h d i
  intro n
  induction n with
  | zero => exact fun hn h => first 0 hn h rfl
  | succ n ih =>
    intro hn h
    by_cases h0 : (n + 1) % 16 = 0
    · exact first _ hn h h0
    · have hn' : n < cfg0.N := Nat.lt_of_succ_lt hn
      have e : entry m c ⟨n + 1, hn⟩ = carried m c n hn' := entry_carry m c ⟨n + 1, hn⟩ h0
      rw [e, carried_eq m c ⟨n, hn'⟩]
      refine (after_chunks m c hL ⟨n, hn'⟩ _ (ih hn') 4 (le_refl _) h).trans ?_
      have h1 : (n + 1) / 16 = n / 16 := by omega
      have h2 : 4 * ((n + 1) % 16) = 4 * (n % 16) + 4 := by omega
      rw [h1, h2]

theorem finish_at (o : FVec Ideal S64x128 .f32) (ng : Vec Ideal S1x128 .f32) (g : Vec Ideal S64x128 .bf16) (r : Fin 64)
    (d : Fin 128) : Head.finish o ng g (ix2 r d)
      = Branch.normed (fun x => o (ix2 r x)) d (ng (ix2 0 d)) (g (ix2 r d)) := by
  unfold Head.finish
  pointwise [Head.silu]
  rfl

include hL in
theorem head_out (S : Vec Ideal S16x128x128 .f32)
    (hS : stateOf (slab S h) = Branch.state (proj m c) (bound m c) (start m c) (t.val / 16) h (turn t k)) (r : Fin 64) (d : Fin 128) :
    headOut (qBlk m c t) (fBlk m c t) (vBlk m c t) (gBlk m c t) (lbBlk m c t) (ngBlk m c t) S k h (ix2 r d)
      = Branch.result (proj m c) (bound m c) (weights m c) (start m c) (t.val / 16) (turn t k) h r d := by
  unfold headOut Head.outRows
  rw [finish_at, norm_block, output_block, Branch.result]
  refine congrArg (fun o => Branch.normed o d _ _) (funext fun x => ?_)
  rw [rows_eq (decay_finite m c hL t k h), query_rows, key_rows, decay_rows, value_rows, hS]
  rfl

include hL in
theorem out_at (y : S256x2048.Idx) : outAt m c t y = Branch.result (proj m c) (bound m c) (weights m c) (start m c)
    (t.val / 16) (turn t (rowChunk y)) (colHead y) ⟨(y 0).val % 64, Nat.mod_lt _ (by decide)⟩
      ⟨(y 1).val % 128, Nat.mod_lt _ (by decide)⟩ := by
  have e : chunkLoc y = ix2 ⟨(y 0).val % 64, Nat.mod_lt _ (by decide)⟩ ⟨(y 1).val % 128, Nat.mod_lt _ (by decide)⟩ := by
    funext a
    match a with
    | ⟨0, _⟩ => rfl
    | ⟨1, _⟩ => rfl
  unfold outAt outBlock
  rw [e]
  exact head_out m c hL t (rowChunk y) (colHead y) _ (after_chunks m c hL t _ (entry_state m c hL t.val t.isLt) _
    (Nat.le_of_lt (rowChunk y).isLt) _) _ _

theorem emb_7 (y : S256x2048.Idx) : (((cfg0.win 7).blk t).view.emb y 0).val = t.val * 256 + (y 0).val
    ∧ (((cfg0.win 7).blk t).view.emb y 1).val = (y 1).val := by
  have e := (index_facts t).2.2.2.2.2.2.2
  constructor <;> blk_simp [e]

theorem result_congr {X : (⟨2, ![16384, 16384]⟩ : Shape).Idx → EReal} {L : Fin 2048 → EReal}
    {ng : (⟨2, ![1, 2048]⟩ : Shape).Idx → EReal} {s0 : (⟨3, ![16, 128, 128]⟩ : Shape).Idx → EReal} {b b' n n' : ℕ}
    {h h' : Fin 16} {r r' : Fin 64} {d d' : Fin 128} (hb : b = b') (hn : n = n') (hh : h = h') (hr : r = r') (hd : d = d') :
    Branch.result X L ng s0 b n h r d = Branch.result X L ng s0 b' n' h' r' d' := by
  subst hb hn hh hr hd; rfl

include hL in
/-- The output array at the end. -/
theorem array_eq : (dats m 0 c).arrAt 7 (Fin.last cfg0.N)
    = Branch.array (proj m c) (bound m c) (weights m c) (start m c) := by
  refine (dats m 0 c).arrAt_eq_of_covers 7 _ (by decide +kernel) fun t hf y => ?_
  blk_simp
  rw [after_7, out_at m c hL]
  have h0 := (emb_7 t y).1
  have h1 := (emb_7 t y).2
  have ht := point_lt t
  have hy : (y 0).val < 256 := (y 0).isLt
  unfold Branch.array
  refine result_congr ?_ ?_ (Fin.ext ?_) (Fin.ext ?_) (Fin.ext ?_)
  · show t.val / 16 = (((cfg0.win 7).blk t).view.emb y 0).val / 4096
    omega
  · show 4 * (t.val % 16) + (y 0).val / 64 = (((cfg0.win 7).blk t).view.emb y 0).val % 4096 / 64
    omega
  · show (y 1).val / 128 = (((cfg0.win 7).blk t).view.emb y 1).val / 128
    omega
  · show (y 0).val % 64 = (((cfg0.win 7).blk t).view.emb y 0).val % 64
    omega
  · show (y 1).val % 128 = (((cfg0.win 7).blk t).view.emb y 1).val % 128
    omega
end

end Cert.KernelIdeal.Block

end
-- ==== Proof.Layout.lean ====
/- The layouts the reference passes through, at an index: rows of the flat array by sequence, and those by chunk and head;
   and one chunk of a stack of chunks, read and replaced. -/
module

public import Idealize.ShloMosaic.Lib.Pointwise
public import Idealize.ShloMosaic.Lib.DynamicIndex
public import Idealize.ShloMosaic.PureOps.Ideal

@[expose] public section

set_option maxRecDepth 16384

noncomputable section

namespace Cert.Layout

open Idealize.ShloMosaic

variable {α : Type}

/-- A flat row by its sequence. -/
theorem by_sequence (x : (⟨2, ![16384, 2048]⟩ : Shape).Idx → α)
    (h : (⟨2, ![16384, 2048]⟩ : Shape).ShapeCasts ⟨3, ![4, 4096, 2048]⟩) (b : Fin 4) (r : Fin 4096) (j : Fin 2048) :
    shapeCast ⟨3, ![4, 4096, 2048]⟩ x h (ix3 b r j) = x (ix2 ⟨4096 * b.val + r.val, by omega⟩ j) := by
  pointwise
  exact congrArg (fun r => x (ix2 r j)) (Fin.ext (by show b.val * 4096 + r.val = 4096 * b.val + r.val; omega))

/-- A sequence's rows by chunk and head. -/
theorem by_chunk (x : (⟨3, ![4, 4096, 2048]⟩ : Shape).Idx → α)
    (h : (⟨3, ![4, 4096, 2048]⟩ : Shape).ShapeCasts ⟨5, ![4, 64, 64, 16, 128]⟩) (b : Fin 4) (n t : Fin 64) (a : Fin 16) (k : Fin 128) :
    shapeCast ⟨5, ![4, 64, 64, 16, 128]⟩ x h (ix5 b n t a k)
      = x (ix3 b ⟨64 * n.val + t.val, by omega⟩ ⟨128 * a.val + k.val, by omega⟩) := by
  pointwise
  exact congrArg₂ (fun r c => x (ix3 b r c)) (Fin.ext (by show n.val * 64 + t.val = 64 * n.val + t.val; omega))
    (Fin.ext (by show a.val * 128 + k.val = 128 * a.val + k.val; omega))

/-- A sequence's rows as a stack of chunks. -/
theorem stack (x : (⟨3, ![4, 4096, 2048]⟩ : Shape).Idx → α)
    (h : (⟨3, ![4, 4096, 2048]⟩ : Shape).ShapeCasts ⟨5, ![4, 64, 64, 16, 128]⟩)
    (ht : (⟨5, ![4, 64, 64, 16, 128]⟩ : Shape).Transposes [1, 0, 3, 2, 4] ⟨5, ![64, 4, 16, 64, 128]⟩)
    (b : Fin 4) (n t : Fin 64) (a : Fin 16) (k : Fin 128) :
    transpose ⟨5, ![64, 4, 16, 64, 128]⟩ [1, 0, 3, 2, 4] (shapeCast ⟨5, ![4, 64, 64, 16, 128]⟩ x h) ht (ix5 n b a t k)
      = x (ix3 b ⟨64 * n.val + t.val, by omega⟩ ⟨128 * a.val + k.val, by omega⟩) := by
  rw [← by_chunk x h b n t a k]
  generalize shapeCast ⟨5, ![4, 64, 64, 16, 128]⟩ x h = y
  pointwise

/-- The chunk a stack of chunks is read at. -/
theorem chunk_of (x : (⟨5, ![64, 4, 16, 64, 128]⟩ : Shape).Idx → α) (start : Fin 5 → Int) (n : Fin 64)
    (h0 : start 0 = n.val) (h1 : start 1 = 0) (h2 : start 2 = 0) (h3 : start 3 = 0) (h4 : start 4 = 0)
    (hf : (⟨5, ![64, 4, 16, 64, 128]⟩ : Shape).Slices (fun _ => 0) ⟨5, ![1, 4, 16, 64, 128]⟩)
    (hc : (⟨5, ![1, 4, 16, 64, 128]⟩ : Shape).ShapeCasts ⟨4, ![4, 16, 64, 128]⟩) (b : Fin 4) (a : Fin 16) (t : Fin 64) (k : Fin 128) :
    shapeCast ⟨4, ![4, 16, 64, 128]⟩ (Host.dynamicSlice ⟨5, ![1, 4, 16, 64, 128]⟩ x start hf) hc (ix4 b a t k)
      = x (ix5 n b a t k) := by
  have hoff : (⟨5, ![64, 4, 16, 64, 128]⟩ : Shape).Slices ![n.val, 0, 0, 0, 0] ⟨5, ![1, 4, 16, 64, 128]⟩ := by
    refine ⟨rfl, fun i => ?_⟩
    match i with
    | ⟨0, _⟩ => exact show n.val + 1 ≤ 64 by omega
    | ⟨1, _⟩ => exact show 0 + 4 ≤ 4 by omega
    | ⟨2, _⟩ => exact show 0 + 16 ≤ 16 by omega
    | ⟨3, _⟩ => exact show 0 + 64 ≤ 64 by omega
    | ⟨4, _⟩ => exact show 0 + 128 ≤ 128 by omega
  rw [Host.dynamicSlice_eq_extractStridedSlice _ x start ![n.val, 0, 0, 0, 0] hf hoff (fun i => by
    match i with
    | ⟨0, _⟩ => exact h0
    | ⟨1, _⟩ => exact h1
    | ⟨2, _⟩ => exact h2
    | ⟨3, _⟩ => exact h3
    | ⟨4, _⟩ => exact h4)]
  pointwise

/-- A stack of chunks with one of them replaced. -/
theorem chunk_put (x : (⟨5, ![64, 4, 16, 64, 128]⟩ : Shape).Idx → α) (y : (⟨4, ![4, 16, 64, 128]⟩ : Shape).Idx → α)
    (start : Fin 5 → Int) (n : Fin 64)
    (h0 : start 0 = n.val) (h1 : start 1 = 0) (h2 : start 2 = 0) (h3 : start 3 = 0) (h4 : start 4 = 0)
    (hf : (⟨5, ![64, 4, 16, 64, 128]⟩ : Shape).Slices (fun _ => 0) ⟨5, ![1, 4, 16, 64, 128]⟩)
    (hb : (⟨4, ![4, 16, 64, 128]⟩ : Shape).BroadcastsInDim ⟨5, ![1, 4, 16, 64, 128]⟩ ![1, 2, 3, 4])
    (i : Fin 64) (b : Fin 4) (a : Fin 16) (t : Fin 64) (k : Fin 128) :
    Host.dynamicUpdateSlice x (broadcastInDim ⟨5, ![1, 4, 16, 64, 128]⟩ ![1, 2, 3, 4] hb y) start hf (ix5 i b a t k)
      = if i = n then y (ix4 b a t k) else x (ix5 i b a t k) := by
  have c0 : Host.clampedStart ⟨5, ![64, 4, 16, 64, 128]⟩ ⟨5, ![1, 4, 16, 64, 128]⟩ hf.1 start 0 = n.val :=
    Host.clampedStart_of_le _ _ _ _ h0 (show n.val + 1 ≤ 64 by omega)
  have c1 : Host.clampedStart ⟨5, ![64, 4, 16, 64, 128]⟩ ⟨5, ![1, 4, 16, 64, 128]⟩ hf.1 start 1 = 0 :=
    Host.clampedStart_of_le _ _ _ _ h1 (show 0 + 4 ≤ 4 by omega)
  have c2 : Host.clampedStart ⟨5, ![64, 4, 16, 64, 128]⟩ ⟨5, ![1, 4, 16, 64, 128]⟩ hf.1 start 2 = 0 :=
    Host.clampedStart_of_le _ _ _ _ h2 (show 0 + 16 ≤ 16 by omega)
  have c3 : Host.clampedStart ⟨5, ![64, 4, 16, 64, 128]⟩ ⟨5, ![1, 4, 16, 64, 128]⟩ hf.1 start 3 = 0 :=
    Host.clampedStart_of_le _ _ _ _ h3 (show 0 + 64 ≤ 64 by omega)
  have c4 : Host.clampedStart ⟨5, ![64, 4, 16, 64, 128]⟩ ⟨5, ![1, 4, 16, 64, 128]⟩ hf.1 start 4 = 0 :=
    Host.clampedStart_of_le _ _ _ _ h4 (show 0 + 128 ≤ 128 by omega)
  rw [Host.dynamicUpdateSlice_apply]
  by_cases hi : i = n
  · subst hi
    rw [if_pos rfl, dif_pos]
    · pointwise
      refine congrArg y (funext fun e => Fin.ext ?_)
      match e with
      | ⟨0, _⟩ => show b.val - Host.clampedStart _ _ hf.1 start 1 = b.val; rw [c1]; rfl
      | ⟨1, _⟩ => show a.val - Host.clampedStart _ _ hf.1 start 2 = a.val; rw [c2]; rfl
      | ⟨2, _⟩ => show t.val - Host.clampedStart _ _ hf.1 start 3 = t.val; rw [c3]; rfl
      | ⟨3, _⟩ => show k.val - Host.clampedStart _ _ hf.1 start 4 = k.val; rw [c4]; rfl
    · intro e
      match e with
      | ⟨0, _⟩ =>
        show Host.clampedStart _ _ hf.1 start 0 ≤ i.val ∧ i.val < Host.clampedStart _ _ hf.1 start 0 + 1
        rw [c0]; omega
      | ⟨1, _⟩ =>
        show Host.clampedStart _ _ hf.1 start 1 ≤ b.val ∧ b.val < Host.clampedStart _ _ hf.1 start 1 + 4
        rw [c1]; omega
      | ⟨2, _⟩ =>
        show Host.clampedStart _ _ hf.1 start 2 ≤ a.val ∧ a.val < Host.clampedStart _ _ hf.1 start 2 + 16
        rw [c2]; omega
      | ⟨3, _⟩ =>
        show Host.clampedStart _ _ hf.1 start 3 ≤ t.val ∧ t.val < Host.clampedStart _ _ hf.1 start 3 + 64
        rw [c3]; omega
      | ⟨4, _⟩ =>
        show Host.clampedStart _ _ hf.1 start 4 ≤ k.val ∧ k.val < Host.clampedStart _ _ hf.1 start 4 + 128
        rw [c4]; omega
  · rw [if_neg hi, dif_neg]
    intro hin
    have h : Host.clampedStart ⟨5, ![64, 4, 16, 64, 128]⟩ ⟨5, ![1, 4, 16, 64, 128]⟩ hf.1 start 0 ≤ i.val
      ∧ i.val < Host.clampedStart ⟨5, ![64, 4, 16, 64, 128]⟩ ⟨5, ![1, 4, 16, 64, 128]⟩ hf.1 start 0 + 1 := hin 0
    rw [c0] at h
    exact hi (Fin.ext (by omega))

end Cert.Layout

end
-- ==== Proof.RefTrip.lean ====
/- One trip of the reference's loop over chunks: from what the carried arrays hold at the trip's chunk, the state it leaves
   and the rows it writes. -/
module

public import proofs.«01_k».proof.Proof.Branch
public import proofs.«01_k».proof.Proof.Window
public import proofs.«01_k».proof.Proof.Layout
public import proofs.«01_k».proof.Proof.LowerBound
public import proofs.«01_k».proof.Proof.Gen.ReferenceIdeal.Run
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo

/-- Head `a` of chunk `n` of sequence `b` of a stack of chunks. -/
def piece (x : (⟨5, ![64, 4, 16, 64, 128]⟩ : Shape).Idx → EReal) (n : Fin 64) (b : Fin 4) (a : Fin 16) : Branch.Rows :=
  fun t k => x (ix5 n b a t k)
/-- Head `a`'s state of sequence `b`. -/
def stateAt (x : (⟨4, ![4, 16, 128, 128]⟩ : Shape).Idx → EReal) (b : Fin 4) (a : Fin 16) : Branch.State :=
  fun k d => x (ix4 b a k d)

variable (V0 : Valuation τ sig (Elt Ideal)) (n : Fin 64)

/-- The carried arrays. -/
abbrev qsOf : (⟨5, ![64, 4, 16, 64, 128]⟩ : Shape).Idx → EReal := V0 (Proc.devRef .tc main_v55_0)
abbrev keyOf : (⟨5, ![64, 4, 16, 64, 128]⟩ : Shape).Idx → EReal := V0 (Proc.devRef .tc main_v55_1)
abbrev valOf : (⟨5, ![64, 4, 16, 64, 128]⟩ : Shape).Idx → EReal := V0 (Proc.devRef .tc main_v55_2)
abbrev decayOf : (⟨5, ![64, 4, 16, 64, 128]⟩ : Shape).Idx → EReal := V0 (Proc.devRef .tc main_v55_3)
abbrev maskOf : (⟨2, ![64, 64]⟩ : Shape).Idx → BitVec 1 := V0 (Proc.devRef .tc main_v55_4)
abbrev counterOf : (⟨0, ![]⟩ : Shape).Idx → BitVec 32 := V0 (Proc.devRef .tc main_v55_5)
abbrev stOf : (⟨4, ![4, 16, 128, 128]⟩ : Shape).Idx → EReal := V0 (Proc.devRef .tc main_v55_6)
abbrev outOf : (⟨5, ![64, 4, 16, 64, 128]⟩ : Shape).Idx → EReal := V0 (Proc.devRef .tc main_v55_7)

variable (hc : counterOf V0 = fun _ => BitVec.ofNat 32 n.val)
include hc

theorem counter_int : (counterOf V0 (Shape.Idx.first h_S_)).toInt = n.val := by
  rw [hc]; exact toInt_ofNat_of_lt (by omega)

variable (b : Fin 4) (a : Fin 16) (t : Fin 64) (k : Fin 128)

theorem v80_at : res_main_while0b_v80 V0 (ix4 b a t k) = piece (qsOf V0) n b a t k :=
  Layout.chunk_of _ _ n (counter_int V0 n hc) rfl rfl rfl rfl _ _ b a t k
theorem v81_at : res_main_while0b_v81 V0 (ix4 b a t k) = piece (keyOf V0) n b a t k :=
  Layout.chunk_of _ _ n (counter_int V0 n hc) rfl rfl rfl rfl _ _ b a t k
theorem v82_at : res_main_while0b_v82 V0 (ix4 b a t k) = piece (valOf V0) n b a t k :=
  Layout.chunk_of _ _ n (counter_int V0 n hc) rfl rfl rfl rfl _ _ b a t k
theorem v84_at : res_main_while0b_v84 V0 (ix4 b a t k) = Branch.cum (piece (decayOf V0) n b a) t k := by
  refine (Window.cumsum_rows _ _ _ _ (by pointwise) b a t k).trans ?_
  unfold Branch.cum
  refine Finset.sum_congr rfl fun u _ => ?_
  rw [Layout.chunk_of _ _ n (counter_int V0 n hc) rfl rfl rfl rfl _ _ b a u k]
  rfl
theorem v105_at : res_main_while0b_v105 V0 (ix4 b a 0 k) = Branch.cum (piece (decayOf V0) n b a) 63 k := by
  unfold res_main_while0b_v105
  pointwise
  exact v84_at V0 n hc b a 63 k

/-- The state a trip leaves. -/
theorem step_state (d : Fin 128) : (step_main_v55_6 V0 (ix4 b a k d) : EReal)
    = Branch.next (piece (keyOf V0) n b a) (piece (decayOf V0) n b a) (piece (valOf V0) n b a) (stateAt (stOf V0) b a) k d := by
  have e81 := v81_at V0 n hc
  have e82 := v82_at V0 n hc
  have e84 := v84_at V0 n hc
  have e105 := v105_at V0 n hc
  unfold step_main_v55_6
  generalize res_main_while0b_v81 V0 = x81 at e81 ⊢
  generalize res_main_while0b_v82 V0 = x82 at e82 ⊢
  generalize res_main_while0b_v84 V0 = x84 at e84 ⊢
  generalize res_main_while0b_v105 V0 = x105 at e105 ⊢
  dsimp only [id]
  clean_types
  pointwise
  simp only [e81, e82, e84, e105]
  rfl

/-- The rows a trip writes. -/
theorem step_rows (hm : ∀ t s : Fin 64, maskOf V0 (ix2 t s) = if s ≤ t then 1#1 else 0#1) (i : Fin 64) (d : Fin 128) :
    (step_main_v55_7 V0 (ix5 i b a t d) : EReal) = if i = n then Branch.rows (piece (qsOf V0) n b a) (piece (keyOf V0) n b a) (piece (decayOf V0) n b a)
        (piece (valOf V0) n b a) (stateAt (stOf V0) b a) t d else outOf V0 (ix5 i b a t d) := by
  have e80 := v80_at V0 n hc
  have e81 := v81_at V0 n hc
  have e82 := v82_at V0 n hc
  have e84 := v84_at V0 n hc
  unfold step_main_v55_7
  dsimp only [id]
  clean_types
  refine (Layout.chunk_put _ _ _ n (counter_int V0 n hc) rfl rfl rfl rfl _ _ i b a t d).trans ?_
  refine if_congr Iff.rfl ?_ rfl
  generalize res_main_while0b_v80 V0 = x80 at e80 ⊢
  generalize res_main_while0b_v81 V0 = x81 at e81 ⊢
  generalize res_main_while0b_v82 V0 = x82 at e82 ⊢
  generalize res_main_while0b_v84 V0 = x84 at e84 ⊢
  pointwise
  simp only [e80, e81, e82, e84]
  refine congrArg (· + _) (Finset.sum_congr rfl fun s _ => congrArg (· * _) (Finset.sum_congr rfl fun k _ => ?_))
  rw [show (V0 (Proc.devRef .tc main_v55_4) (ix2 t s) : BitVec 1) = _ from hm t s]
  by_cases h : s ≤ t
  · rw [if_pos h, if_pos h]; rfl
  · rw [if_neg h, if_neg h, LowerBound.word_bot]; rfl

end Cert.ReferenceIdeal.Value

end
-- ==== Proof.RefEntry.lean ====
/- What the reference's loop is entered with: queries, keys, values and decays as stacks of chunks, the mask, the initial
   state. -/
module

public import proofs.«01_k».proof.Proof.RefTrip

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo

variable (m : (ℓ : Loc nD τ sig) → Buf (Elt Ideal) ℓ) (c : Dev nD)

/-- The arguments as arrays of extended reals, and the gate's lower bounds. -/
abbrev proj : (⟨2, ![16384, 16384]⟩ : Shape).Idx → EReal := m ((c : Thread nD τ).loc main_arg0)
abbrev logits : (⟨2, ![2, 2048]⟩ : Shape).Idx → EReal := m ((c : Thread nD τ).loc main_arg1)
abbrev weights : (⟨2, ![1, 2048]⟩ : Shape).Idx → EReal := m ((c : Thread nD τ).loc main_arg2)
abbrev start : (⟨3, ![16, 128, 128]⟩ : Shape).Idx → EReal := m ((c : Thread nD τ).loc main_arg3)
abbrev bound : Fin 2048 → EReal := LowerBound.low (logits m c)

/-- What the buffers hold where the loop is entered: after the lower bounds are made, and after the rest. -/
abbrev E : Valuation τ sig (Elt Ideal) := entryContents preI m c
def front : Valuation τ sig (Elt Ideal) := after hostOps0_1 (after hostOps0 (launchContents m c))
def stretches (X : Valuation τ sig (Elt Ideal)) : Valuation τ sig (Elt Ideal) :=
  after hostOps0_6 (after hostOps0_5 (after hostOps0_4 (after hostOps0_3 (after hostOps0_2 X))))
theorem E_eq : E m c = stretches (front m c) := rfl

theorem front_bound (j : Fin 2048) : (front m c (Proc.devRef .tc main_v11) (ix2 0 j) : EReal) = bound m c j := by
  unfold front
  after_reads_at
  exact LowerBound.first_row _ _ _ _ _ _ _ _ _

theorem front_arg0 : front m c (Proc.devRef .tc main_arg0) = proj m c := by
  unfold front
  after_reads_simp
theorem front_arg3 : front m c (Proc.devRef .tc main_arg3) = start m c := by
  unfold front
  after_reads_simp

section
variable (X : Valuation τ sig (Elt Ideal))

/-- The stretch's buffers at an index, of the contents before it. -/
abbrev input : (⟨2, ![16384, 16384]⟩ : Shape).Idx → EReal := X (Proc.devRef .tc main_arg0)
abbrev lower : (⟨2, ![2, 2048]⟩ : Shape).Idx → EReal := X (Proc.devRef .tc main_v11)

variable (n : Fin 64) (b : Fin 4) (a : Fin 16) (t : Fin 64) (k : Fin 128)

/-- The row and the column the argument is read at. -/
theorem input_at (x : (⟨2, ![16384, 16384]⟩ : Shape).Idx → EReal) (off : ℕ) (ho : off ≤ 14336) (h0) (h1) :
    x (ix2 ⟨b.val * 4096 + (64 * n.val + t.val), h0⟩ ⟨off + (128 * a.val + k.val), h1⟩)
      = Branch.part x off b.val n.val a t k := by
  refine congrArg₂ (fun r c => x (ix2 r c)) (Fin.ext ?_) (Fin.ext ?_)
  · show b.val * 4096 + (64 * n.val + t.val) = (4096 * b.val + 64 * n.val + t.val) % 16384
    omega
  · show off + (128 * a.val + k.val) = (off + 128 * a.val + k.val) % 16384
    omega

theorem stretch_value : piece (valOf (stretches X)) n b a t k = Branch.part (input X) 8192 b.val n.val a t k := by
  unfold piece valOf stretches
  after_reads_simp
  simp -implicitDefEqProofs only [StableHlo.TRef.toBuf, StableHlo.TRef.ofBuf, cast_cast, cast_eq, id]
  clean_types
  refine (Layout.stack _ _ _ b n t a k).trans ?_
  pointwise
  exact input_at n b a t k _ 8192 (by decide) _ _

theorem stretch_query : piece (qsOf (stretches X)) n b a t k = Branch.silu (Branch.part (input X) 4096 b.val n.val a t k) := by
  unfold piece qsOf stretches
  after_reads_simp
  simp -implicitDefEqProofs only [StableHlo.TRef.toBuf, StableHlo.TRef.ofBuf, cast_cast, cast_eq, id]
  clean_types
  refine (Layout.stack _ _ _ b n t a k).trans ?_
  pointwise
  rw [← input_at n b a t k _ 4096 (by decide) (by omega) (by omega)]
  rfl

theorem stretch_decay : piece (decayOf (stretches X)) n b a t k = Ideal.log (Branch.gate (lower X (ix2 0 (Branch.wide a k))) (Branch.part (input X) 6144 b.val n.val a t k)) := by
  unfold piece decayOf stretches
  after_reads_simp
  simp -implicitDefEqProofs only [StableHlo.TRef.toBuf, StableHlo.TRef.ofBuf, cast_cast, cast_eq, id]
  clean_types
  refine (Layout.stack _ _ _ b n t a k).trans ?_
  pointwise
  rw [← input_at n b a t k _ 6144 (by decide) (by omega) (by omega)]
  rfl

theorem stretch_key : piece (keyOf (stretches X)) n b a t k = 1 - Branch.gate (lower X (ix2 0 (Branch.wide a k))) (Branch.part (input X) 6144 b.val n.val a t k) := by
  unfold piece keyOf stretches
  after_reads_simp
  simp -implicitDefEqProofs only [StableHlo.TRef.toBuf, StableHlo.TRef.ofBuf, cast_cast, cast_eq, id]
  clean_types
  refine (Layout.stack _ _ _ b n t a k).trans ?_
  pointwise
  rw [← input_at n b a t k _ 6144 (by decide) (by omega) (by omega)]
  rfl

theorem stretch_state (d : Fin 128) : stOf (stretches X) (ix4 b a k d) = (X (Proc.devRef .tc main_arg3) (ix3 a d k) : EReal) := by
  unfold stOf stretches
  after_reads_simp
  simp -implicitDefEqProofs only [StableHlo.TRef.toBuf, StableHlo.TRef.ofBuf, cast_cast, cast_eq, id]
  clean_types
  pointwise

theorem mask_word : ∀ t s : Fin 64, Scalar.select (IntOp.cmpi .sge (IntOp.addi (BitVec.ofNat 32 t.val) 0#32) (BitVec.ofNat 32 s.val))
    1#1 0#1 = if s ≤ t then 1#1 else 0#1 := by decide +kernel

theorem stretch_mask (s : Fin 64) : maskOf (stretches X) (ix2 t s) = if s ≤ t then 1#1 else 0#1 := by
  unfold maskOf stretches
  after_reads_simp
  simp -implicitDefEqProofs only [StableHlo.TRef.toBuf, StableHlo.TRef.ofBuf, cast_cast, cast_eq, id]
  clean_types
  pointwise
  exact mask_word t s
end

section
variable (n : Fin 64) (b : Fin 4) (a : Fin 16)

theorem entry_query : piece (qsOf (E m c)) n b a = Branch.query (proj m c) b.val n.val a := by
  funext t k
  rw [E_eq, stretch_query]
  unfold input
  rw [front_arg0]; rfl
theorem entry_value : piece (valOf (E m c)) n b a = Branch.val (proj m c) b.val n.val a := by
  funext t k
  rw [E_eq, stretch_value]
  unfold input
  rw [front_arg0]; rfl
theorem entry_decay : piece (decayOf (E m c)) n b a = Branch.decay (proj m c) (bound m c) b.val n.val a := by
  funext t k
  rw [E_eq, stretch_decay]
  unfold input lower
  rw [front_arg0, front_bound]; rfl
theorem entry_key : piece (keyOf (E m c)) n b a = Branch.key (proj m c) (bound m c) b.val n.val a := by
  funext t k
  rw [E_eq, stretch_key]
  unfold input lower
  rw [front_arg0, front_bound]; rfl
theorem entry_state : stateAt (stOf (E m c)) b a = fun k d => start m c (ix3 a d k) := by
  funext k d
  unfold stateAt
  rw [E_eq, stretch_state, front_arg3]
theorem entry_mask (t s : Fin 64) : maskOf (E m c) (ix2 t s) = if s ≤ t then 1#1 else 0#1 := by
  rw [E_eq]; exact stretch_mask _ t s
theorem entry_counter : counterOf (E m c) = fun _ => BitVec.ofNat 32 0 := ctr_entry m c
end

end Cert.ReferenceIdeal.Value

end
-- ==== Proof.RefValue.lean ====
/- What the reference returns: its loop iterated over the chunks, and the operations after it. -/
module

public import proofs.«01_k».proof.Proof.RefEntry

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo

variable (m : (ℓ : Loc nD τ sig) → Buf (Elt Ideal) ℓ) (c : Dev nD)

/-- The contents after `n` trips. -/
abbrev trips (n : ℕ) : Valuation τ sig (Elt Ideal) := STEP^[n] (E m c)

/-- What holds of the carried arrays before trip `n`. -/
structure Holds (n : ℕ) : Prop where
  qs : qsOf (trips m c n) = qsOf (E m c)
  key : keyOf (trips m c n) = keyOf (E m c)
  val : valOf (trips m c n) = valOf (E m c)
  decay : decayOf (trips m c n) = decayOf (E m c)
  mask : maskOf (trips m c n) = maskOf (E m c)
  counter : counterOf (trips m c n) = fun _ => BitVec.ofNat 32 n
  state : ∀ b a, stateAt (stOf (trips m c n)) b a = Branch.state (proj m c) (bound m c) (start m c) b.val a n
  out : ∀ (i : Fin 64) b a, i.val < n → piece (outOf (trips m c n)) i b a
    = Branch.out (proj m c) (bound m c) (start m c) b.val i.val a

theorem holds_start : Holds m c 0 where
  qs := rfl
  key := rfl
  val := rfl
  decay := rfl
  mask := rfl
  counter := entry_counter m c
  state := entry_state m c
  out i b a h := absurd h (Nat.not_lt_zero _)

theorem holds_step (n : Fin 64) (h : Holds m c n.val) : Holds m c (n.val + 1) := by
  have e : trips m c (n.val + 1) = STEP (trips m c n.val) := Function.iterate_succ_apply' _ _ _
  refine ⟨?_, ?_, ?_, ?_, ?_, ?_, fun b a => ?_, fun i b a hi => ?_⟩
  · rw [e]; exact (STEP_main_v55_0 _).trans h.qs
  · rw [e]; exact (STEP_main_v55_1 _).trans h.key
  · rw [e]; exact (STEP_main_v55_2 _).trans h.val
  · rw [e]; exact (STEP_main_v55_3 _).trans h.decay
  · rw [e]; exact (STEP_main_v55_4 _).trans h.mask
  · rw [e]
    refine (STEP_main_v55_5 _).trans ?_
    funext j
    show IntOp.addi (counterOf (trips m c n.val) j) 1#32 = _
    rw [h.counter]
    exact (BitVec.ofNat_add _ _).symm
  · rw [e]
    funext k d
    refine (congrFun (STEP_main_v55_6 (trips m c n.val)) (ix4 b a k d)).trans ?_
    refine (step_state _ n h.counter b a k d).trans ?_
    rw [h.key, h.decay, h.val, h.state, entry_key, entry_decay, entry_value]
    rfl
  · rw [e]
    funext t d
    refine (congrFun (STEP_main_v55_7 (trips m c n.val)) (ix5 i b a t d)).trans ?_
    refine (step_rows _ n h.counter b a t (fun t s => by rw [h.mask]; exact entry_mask m c t s) i d).trans ?_
    by_cases hin : i = n
    · subst hin
      rw [if_pos rfl, h.qs, h.key, h.decay, h.val, h.state, entry_query, entry_key, entry_decay, entry_value]
      rfl
    · rw [if_neg hin]
      have hlt : i.val < n.val := by
        have : i.val ≠ n.val := fun h => hin (Fin.ext h)
        omega
      exact congrFun (congrFun (h.out i b a hlt) t) d

theorem holds_at : ∀ n, n ≤ 64 → Holds m c n
  | 0, _ => holds_start m c
  | n + 1, hn => holds_step m c ⟨n, hn⟩ (holds_at n (Nat.le_of_succ_le hn))

/-- The chunk, sequence, head and place of a row and a column of the result. -/
abbrev seqOf (r : Fin 16384) : Fin 4 := ⟨r.val / 4096, by omega⟩
abbrev turnOf (r : Fin 16384) : Fin 64 := ⟨r.val % 4096 / 64, by omega⟩
abbrev placeOf (r : Fin 16384) : Fin 64 := ⟨r.val % 4096 % 64, by omega⟩
abbrev headOf (j : Fin 2048) : Fin 16 := ⟨j.val / 128, by omega⟩
abbrev laneOf (j : Fin 2048) : Fin 128 := ⟨j.val % 128, by omega⟩

/-- The operations after the loop, at an index. -/
theorem finish_at (V0 : Valuation τ sig (Elt Ideal)) (r : Fin 16384) (j : Fin 2048) :
    (out_main_v79 V0 (ix2 r j) : EReal)
      = Branch.normed (piece (outOf V0) (turnOf r) (seqOf r) (headOf j) (placeOf r)) (laneOf j)
        (V0 (Proc.devRef .tc main_arg2) (ix2 0 j)) (V0 (Proc.devRef .tc main_arg0) (ix2 r ⟨10240 + j.val, by omega⟩)) := by
  unfold out_main_v79
  clean_types
  pointwise
  rfl

/-- The reference's result. -/
theorem result_eq : out_main_v79 (trips m c 64) = Branch.array (proj m c) (bound m c) (weights m c) (start m c) := by
  have key : ∀ (r : Fin 16384) (j : Fin 2048), (out_main_v79 (trips m c 64) (ix2 r j) : EReal)
      = Branch.array (proj m c) (bound m c) (weights m c) (start m c) (ix2 r j) := fun r j => by
    rw [finish_at, (holds_at m c 64 (le_refl _)).out (turnOf r) (seqOf r) (headOf j) (turnOf r).isLt]
    have e2 : trips m c 64 (Proc.devRef .tc main_arg2) = weights m c := iter_main_arg2 m c 64
    have e0 : trips m c 64 (Proc.devRef .tc main_arg0) = proj m c := iter_main_arg0 m c 64
    rw [e2, e0]
    have hp : (⟨r.val % 64, Nat.mod_lt _ (by decide)⟩ : Fin 64) = placeOf r := Fin.ext (by show r.val % 64 = r.val % 4096 % 64; omega)
    have hw : Branch.wide (headOf j) (laneOf j) = j := Fin.ext (by show 128 * (j.val / 128) + j.val % 128 = j.val; omega)
    have hx : Branch.part (proj m c) 10240 (seqOf r).val (turnOf r).val (headOf j) (placeOf r) (laneOf j)
        = proj m c (ix2 r ⟨10240 + j.val, by omega⟩) := by
      refine congrArg₂ (fun r c => proj _ _ (ix2 r c)) (Fin.ext ?_) (Fin.ext ?_)
      · show (4096 * (r.val / 4096) + 64 * (r.val % 4096 / 64) + r.val % 4096 % 64) % 16384 = r.val
        omega
      · show (10240 + 128 * (j.val / 128) + j.val % 128) % 16384 = 10240 + j.val
        omega
    show _ = Branch.result (proj m c) (bound m c) (weights m c) (start m c) (seqOf r).val (turnOf r).val (headOf j)
      ⟨r.val % 64, Nat.mod_lt _ (by decide)⟩ (laneOf j)
    rw [hp]
    unfold Branch.result
    rw [hw, hx]
  funext i
  have hi : i = ix2 (i 0) (i 1) := by
    funext a
    match a with
    | ⟨0, _⟩ => rfl
    | ⟨1, _⟩ => rfl
  rw [hi]
  exact key (i 0) (i 1)

end Cert.ReferenceIdeal.Value

end
-- ==== Proof.Reads.lean ====
/- An array read at an index whose coordinates are known. -/
module

public import Idealize.ShloMosaic.Lib.Pointwise

@[expose] public section

namespace Cert

open Idealize.ShloMosaic

theorem read_2 {n0 n1 : Nat} {α : Type} (X : (⟨2, ![n0, n1]⟩ : Shape).Idx → α) (i : (⟨2, ![n0, n1]⟩ : Shape).Idx)
    (r : Fin n0) (j : Fin n1) (h0 : (i 0).val = r.val) (h1 : (i 1).val = j.val) : X i = X (ix2 r j) :=
  congrArg X (funext fun a => Fin.ext (match a with
    | ⟨0, _⟩ => h0
    | ⟨1, _⟩ => h1))

theorem read_3 {n0 n1 n2 : Nat} {α : Type} (X : (⟨3, ![n0, n1, n2]⟩ : Shape).Idx → α) (i : (⟨3, ![n0, n1, n2]⟩ : Shape).Idx)
    (r : Fin n0) (j : Fin n1) (k : Fin n2) (h0 : (i 0).val = r.val) (h1 : (i 1).val = j.val) (h2 : (i 2).val = k.val) :
    X i = X (ix3 r j k) :=
  congrArg X (funext fun a => Fin.ext (match a with
    | ⟨0, _⟩ => h0
    | ⟨1, _⟩ => h1
    | ⟨2, _⟩ => h2))

end Cert
-- ==== Proof.InProj.lean ====
/- The input projection: what the kernel's array and the reference's array hold. The kernel normalises a block of rows
   once, at the first of its sixteen column tiles, and keeps it for the others. -/
module

public import proofs.«01_k».proof.Proof.Gen.Kernel2Ideal.Value
public import proofs.«01_k».proof.Proof.Gen.Reference2Ideal.Run
public import Idealize.ShloMosaic.Lib.Pipeline.ValueKit.Held
public import Idealize.ShloMosaic.Lib.Pipeline.ValueKit
public import Idealize.ShloMosaic.Lib.Pipeline.ReadBack
public import Idealize.ShloMosaic.Lib.StableHlo.ReadAt
public import Idealize.ShloMosaic.Lib.Pointwise
public import proofs.«01_k».proof.Proof.Reads

@[expose] public section

set_option maxRecDepth 16384

noncomputable section

namespace Cert.InProj

open Idealize.ShloMosaic Idealize.ShloMosaic.TcCoe Idealize.SL.Sem
open scoped BigOperators

/-- A row over the root of its mean square, scaled by the norm's weights. -/
def normed (x g : Fin 2048 → EReal) (k : Fin 2048) : EReal :=
  x k * Ideal.rsqrt (Ideal.div (∑ k, x k * x k) (Ideal.ofBits .f32 0x45000000#32) + Ideal.ofBits .f32 0x358637BD#32) * g k

/-- The normalised rows times the weights. -/
def array (x : (⟨3, ![4, 4096, 2048]⟩ : Shape).Idx → EReal) (g : (⟨2, ![1, 2048]⟩ : Shape).Idx → EReal)
    (w : (⟨3, ![1, 2048, 16384]⟩ : Shape).Idx → EReal) (i : (⟨2, ![16384, 16384]⟩ : Shape).Idx) : EReal :=
  ∑ k, normed (fun k => x (ix3 ⟨(i 0).val / 4096, by have : (i 0).val < 16384 := (i 0).isLt; omega⟩
    ⟨(i 0).val % 4096, Nat.mod_lt _ (by decide)⟩ k)) (fun k => g (ix2 0 k)) k * w (ix3 0 k (i 1))

section kernel
open Cert.Kernel2Ideal Cert.Kernel2Ideal.Gen
variable (m : (ℓ : Loc nD τ sig) → Buf (Elt Ideal) ℓ) (c : Dev nD)

theorem idx : ∀ t : Fin cfg0.N, win0_0.index t = ![t.val / 16, 0] ∧ win0_1.index t = ![0, 0]
    ∧ win0_2.index t = ![0, t.val % 16] ∧ win0_3.index t = ![t.val / 16, t.val % 16] := by decide +kernel

/-- What the body keeps in its scratch, and what it leaves in its output block. -/
theorem norm_at (X : FVec Ideal S1024x2048 .f32) (G : FVec Ideal S1x2048 .f32) (r : Fin 1024) (k : Fin 2048) :
    (k0_pay1 (F := Ideal) X G (ix2 r k) : EReal) = normed (fun k => X (ix2 r k)) (fun k => G (ix2 0 k)) k := by
  unfold k0_pay1
  pointwise
  rfl

theorem prod_at (A : FVec Ideal S1024x2048 .bf16) (W : FVec Ideal S2048x1024 .bf16) (r : Fin 1024) (j : Fin 1024) :
    (k0_pay2 (F := Ideal) A W (ix2 r j) : EReal) = ∑ k, A (ix2 r k) * W (ix2 k j) := by
  unfold k0_pay2
  pointwise

/-- The scratch after a point: the block of rows normalised at the first point of its run. -/
theorem kept (t : Fin cfg0.N) : (outsAt0 m c t.val t.isLt).2
    = k0_pay1 (iblk m c 0 ⟨16 * (t.val / 16), by have := t.isLt; omega⟩) (iblk m c 1 ⟨16 * (t.val / 16), by have := t.isLt; omega⟩) := by
  refine Pipeline.eq_of_write_hold (fun n h => (outsAt0 m c n h).2) 16 (fun t => k0_pay1 (iblk m c 0 t) (iblk m c 1 t))
    (fun t h => ?_) (fun t h => ?_) t
  · rw [outsAt0_A m c t h]
    frame_out
  · rw [outsAt0_B m c t h]
    rfl

/-- The output block after a point: the kept rows times the point's columns of the weights. -/
theorem block (t : Fin cfg0.N) : (outsAt0 m c t.val t.isLt).1 = k0_pay2 (outsAt0 m c t.val t.isLt).2 (iblk m c 2 t) := by
  by_cases h : t.val % 16 = 0
  · rw [outsAt0_A m c t h]
    frame_out
  · rw [outsAt0_B m c t h]
    frame_out
    rw [read_unread_whole]
    rfl

/-- The arrays the region finds, by the host operations before it. -/
theorem input_at (r : Fin 16384) (k : Fin 2048) :
    (V m c main_v0 (ix2 r k) : EReal) = (m ((c : Thread nD τ).loc main_arg0) : S4x4096x2048.Idx → EReal)
      (ix3 ⟨r.val / 4096, by omega⟩ ⟨r.val % 4096, Nat.mod_lt _ (by decide)⟩ k) := by
  unfold V
  after_reads_at

theorem scale_at (k : Fin 2048) :
    (V m c main_v4 (ix2 0 k) : EReal) = (m ((c : Thread nD τ).loc main_arg1) : S1x2048.Idx → EReal) (ix2 0 k) := by
  unfold V
  after_reads_at

theorem weights_at (k : Fin 2048) (j : Fin 16384) :
    (V m c main_v3 (ix2 k j) : EReal) = (m ((c : Thread nD τ).loc main_arg2) : S1x2048x16384.Idx → EReal) (ix3 0 k j) := by
  unfold V
  after_reads_at

/-- What both programs leave. -/
abbrev out : (⟨2, ![16384, 16384]⟩ : Shape).Idx → EReal :=
  array (m ((c : Thread nD τ).loc main_arg0)) (m ((c : Thread nD τ).loc main_arg1)) (m ((c : Thread nD τ).loc main_arg2))

theorem kernel_eq : (dats m 0 c).arrAt 3 cfg0.N = out m c := by
  refine (dats m 0 c).arrAt_eq_of_covers 3 _ (by decide +kernel) fun t hf y => ?_
  blk_simp
  rw [after0_3, block, kept]
  obtain ⟨r, j, rfl⟩ : ∃ (r : Fin 1024) (j : Fin 1024), y = ix2 r j := ⟨y 0, y 1, ValueIdx.eq_ix2 y⟩
  refine (prod_at _ _ r j).trans ?_
  have ht : t.val < 256 := t.isLt
  have hs : 16 * (t.val / 16) < cfg0.N := lt_of_le_of_lt (Nat.mul_div_le _ _) t.isLt
  obtain ⟨e0, e1, -, -⟩ := idx ⟨16 * (t.val / 16), hs⟩
  obtain ⟨-, -, e2, e3⟩ := idx t
  have hd : 16 * (t.val / 16) / 16 = t.val / 16 := by omega
  have row : 1024 * (t.val / 16) + r.val < 16384 := by omega
  have col : 1024 * (t.val % 16) + j.val < 16384 := by omega
  have hx : ∀ k, (iblk m c 0 ⟨16 * (t.val / 16), hs⟩ : S1024x2048.Idx → EReal) (ix2 r k)
      = (V m c main_v0 : S16384x2048.Idx → EReal) (ix2 ⟨1024 * (t.val / 16) + r.val, row⟩ k) := fun k =>
    read_2 (V m c main_v0 : S16384x2048.Idx → EReal) (((cfg0.win 0).blk ⟨16 * (t.val / 16), hs⟩).view.emb (ix2 r k)) _ _
      (by blk_simp [e0]; simp; omega) (by blk_simp [e0])
  have hg : ∀ k, (iblk m c 1 ⟨16 * (t.val / 16), hs⟩ : S1x2048.Idx → EReal) (ix2 0 k)
      = (V m c main_v4 : S1x2048.Idx → EReal) (ix2 0 k) := fun k =>
    read_2 (V m c main_v4 : S1x2048.Idx → EReal) (((cfg0.win 1).blk ⟨16 * (t.val / 16), hs⟩).view.emb (ix2 0 k)) _ _
      (by blk_simp [e1]) (by blk_simp [e1])
  have hw : ∀ k, (iblk m c 2 t : S2048x1024.Idx → EReal) (ix2 k j)
      = (V m c main_v3 : S2048x16384.Idx → EReal) (ix2 k ⟨1024 * (t.val % 16) + j.val, col⟩) := fun k =>
    read_2 (V m c main_v3 : S2048x16384.Idx → EReal) (((cfg0.win 2).blk t).view.emb (ix2 k j)) _ _
      (by blk_simp [e2]) (by blk_simp [e2]; simp; omega)
  have hy : out m c (((cfg0.win 3).blk t).view.emb (ix2 r j))
      = out m c (ix2 ⟨1024 * (t.val / 16) + r.val, row⟩ ⟨1024 * (t.val % 16) + j.val, col⟩) :=
    read_2 _ _ _ _ (by blk_simp [e3]; simp; omega) (by blk_simp [e3]; simp; omega)
  refine Eq.trans ?_ hy.symm
  exact Finset.sum_congr rfl fun k _ => congrArg₂ (· * ·) ((norm_at _ _ r k).trans (congrArg₂ (normed · · k)
    (funext fun k => (hx k).trans (input_at m c _ k)) (funext fun k => (hg k).trans (scale_at m c k))))
    ((hw k).trans (weights_at m c k _))
end kernel

section reference
open Cert.Reference2Ideal
/-- A flat row by its sequence. -/
theorem flat (x : S4x4096x16384.Idx → EReal) (r : Fin 16384) (j : Fin 16384) :
    shapeCast S16384x16384 x Gen.facts.shapeCasts_S4x4096x16384_S16384x16384 (ix2 r j)
      = x (ix3 ⟨r.val / 4096, by omega⟩ ⟨r.val % 4096, Nat.mod_lt _ (by decide)⟩ j) := by
  pointwise

/-- The normalised rows, at an index. -/
theorem normed_at (x : FVec Ideal S4x4096x2048 .f32) (g : FVec Ideal S1x2048 .f32) (b : Fin 4) (r : Fin 4096) (k : Fin 2048) :
    (mulf (mulf x (broadcastInDim S4x4096x2048 ![0, 1, 2] Gen.facts.bcast_S4x4096x1_S4x4096x2048_0_1_2 (Host.rsqrt (addf
      (Host.divf (broadcastInDim S4x4096x1 ![0, 1] Gen.facts.bcast_S4x4096_S4x4096x1_0_1
          (Host.reduceAdd (mulf x x) (constant S_ .f32 0x00000000#32) Gen.facts.reducesTo_S4x4096x2048_S4x4096_d2 Gen.facts.h_S_))
        (broadcastInDim S4x4096x1 ![] Gen.facts.bcast_S_S4x4096x1 (constant S_ .f32 0x45000000#32)))
      (broadcastInDim S4x4096x1 ![] Gen.facts.bcast_S_S4x4096x1 (constant S_ .f32 0x358637BD#32))))))
      (broadcastInDim S4x4096x2048 ![0, 1, 2] Gen.facts.bcast_S1x1x2048_S4x4096x2048_0_1_2
        (broadcastInDim S1x1x2048 ![2] Gen.facts.bcast_S2048_S1x1x2048_2 (shapeCast _ g Gen.facts.shapeCasts_S1x2048_S2048)))
      : FVec Ideal S4x4096x2048 .f32) (ix3 b r k)
      = (normed (fun k => x (ix3 b r k)) (fun k => g (ix2 0 k)) k : EReal) := by
  pointwise
  rfl

/-- The product with the weights, at an index. -/
theorem product_at (y : FVec Ideal S4x4096x2048 .f32) (w : FVec Ideal S1x2048x16384 .f32) (b : Fin 4) (r : Fin 4096) (j : Fin 16384) :
    (Host.dotGeneral dot_S4x4096x2048_S2048x16384_S4x4096x16384_2_0_01_1_n_n none y
      (shapeCast _ w Gen.facts.shapeCasts_S1x2048x16384_S2048x16384) (ix3 b r j) : EReal) = ∑ k, y (ix3 b r k) * w (ix3 0 k j) := by
  pointwise

variable (m : (ℓ : Loc nD τ sig) → Buf (Elt Ideal) ℓ) (ρ : Dev nD → PrngReg)

theorem reference_run : θ_run defs (onTc (τ := τ) (main (F := Ideal))) ⟨m, fun _ => 0, ρ⟩ fun r => ∀ c : Dev nD,
      r.2.mem ((c.tc : Thread nD τ).loc main_v17) = array (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  obtain ⟨r, j, rfl⟩ : ∃ (r : Fin 16384) (j : Fin 16384), i = ix2 r j := ⟨i 0, i 1, ValueIdx.eq_ix2 i⟩
  refine (flat _ r j).trans ((product_at _ _ _ _ j).trans ?_)
  exact Finset.sum_congr rfl fun k _ => congrArg (· * _) (normed_at _ _ _ _ k)
end reference

end Cert.InProj

end
-- ==== Proof.Merge.lean ====
/- The merge of the two branches: what the kernel's array and the reference's array hold. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.ReadAt
public import Idealize.ShloMosaic.Lib.Pointwise
public import proofs.«01_k».proof.Proof.Reads

@[expose] public section

set_option maxRecDepth 16384

noncomputable section

namespace Cert.Merge

open Idealize.ShloMosaic Idealize.ShloMosaic.TcCoe Idealize.SL.Sem
open scoped BigOperators

/-- The gate of a projected value. -/
abbrev gate (z : EReal) : EReal := Ideal.div 1 (1 + Ideal.exp (-z))

/-- Each branch projected, gated by its own columns of the projections, and the two added. -/
def array (ya yb : (⟨2, ![16384, 2048]⟩ : Shape).Idx → EReal) (z : (⟨2, ![16384, 16384]⟩ : Shape).Idx → EReal)
    (wa wb : (⟨3, ![1, 2048, 2048]⟩ : Shape).Idx → EReal) (i : (⟨2, ![16384, 2048]⟩ : Shape).Idx) : EReal :=
  gate (z (ix2 (i 0) ⟨12288 + (i 1).val, by have : (i 1).val < 2048 := (i 1).isLt; omega⟩)) * (∑ k, ya (ix2 (i 0) k) * wa (ix3 0 k (i 1)))
    + gate (z (ix2 (i 0) ⟨14336 + (i 1).val, by have : (i 1).val < 2048 := (i 1).isLt; omega⟩)) * ∑ k, yb (ix2 (i 0) k) * wb (ix3 0 k (i 1))

section kernel
open Cert.Kernel3Ideal Cert.Kernel3Ideal.Gen
variable (m : (ℓ : Loc nD τ sig) → Buf (Elt Ideal) ℓ) (c : Dev nD)

theorem idx : ∀ t : Fin cfg0.N, win0_0.index t = ![t.val / 4, 0] ∧ win0_1.index t = ![t.val / 4, 0]
    ∧ win0_2.index t = ![t.val / 4, 24 + t.val % 4] ∧ win0_3.index t = ![t.val / 4, 28 + t.val % 4]
    ∧ win0_4.index t = ![0, t.val % 4] ∧ win0_5.index t = ![0, t.val % 4]
    ∧ win0_6.index t = ![t.val / 4, t.val % 4] := by decide +kernel

/-- What the body leaves at an index of its block. -/
theorem pay_at (A : FVec Ideal S1024x2048 .bf16) (WA : FVec Ideal S2048x512 .bf16) (B : FVec Ideal S1024x2048 .bf16)
    (WB : FVec Ideal S2048x512 .bf16) (ZA ZB : FVec Ideal S1024x512 .bf16) (r : Fin 1024) (j : Fin 512) :
    (k0_pay1 (F := Ideal) A WA B WB ZA ZB (ix2 r j) : EReal)
      = gate (ZA (ix2 r j)) * (∑ k, A (ix2 r k) * WA (ix2 k j)) + gate (ZB (ix2 r j)) * ∑ k, B (ix2 r k) * WB (ix2 k j) := by
  unfold k0_pay1
  pointwise
  rfl

/-- The weights the region finds, by the host operations before it. -/
theorem weights_a (k : Fin 2048) (j : Fin 2048) :
    (V m c main_v1 (ix2 k j) : EReal) = (m ((c : Thread nD τ).loc main_arg3) : S1x2048x2048.Idx → EReal) (ix3 0 k j) := by
  unfold V
  after_reads_at

theorem weights_b (k : Fin 2048) (j : Fin 2048) :
    (V m c main_v3 (ix2 k j) : EReal) = (m ((c : Thread nD τ).loc main_arg4) : S1x2048x2048.Idx → EReal) (ix3 0 k j) := by
  unfold V
  after_reads_at

/-- What both programs leave. -/
abbrev out : (⟨2, ![16384, 2048]⟩ : Shape).Idx → EReal :=
  array (m ((c : Thread nD τ).loc main_arg0)) (m ((c : Thread nD τ).loc main_arg1)) (m ((c : Thread nD τ).loc main_arg2))
    (m ((c : Thread nD τ).loc main_arg3)) (m ((c : Thread nD τ).loc main_arg4))

theorem kernel_eq : (dats m 0 c).arrAt 6 cfg0.N = out m c := by
  refine (dats m 0 c).arrAt_eq_of_covers 6 _ (by decide +kernel) fun t hf y => ?_
  blk_simp
  rw [after0_6]
  frame_out
  obtain ⟨r, j, rfl⟩ : ∃ (r : Fin 1024) (j : Fin 512), y = ix2 r j := ⟨y 0, y 1, ValueIdx.eq_ix2 y⟩
  refine (pay_at _ _ _ _ _ _ r j).trans ?_
  have ht : t.val < 64 := t.isLt
  obtain ⟨e0, e1, e2, e3, e4, e5, e6⟩ := idx t
  have row : 1024 * (t.val / 4) + r.val < 16384 := by omega
  have col : 512 * (t.val % 4) + j.val < 2048 := by omega
  have ha : ∀ k, (iblk m c 0 t : S1024x2048.Idx → EReal) (ix2 r k)
      = (V m c main_arg0 : S16384x2048.Idx → EReal) (ix2 ⟨1024 * (t.val / 4) + r.val, row⟩ k) := fun k =>
    read_2 (V m c main_arg0 : S16384x2048.Idx → EReal) (((cfg0.win 0).blk t).view.emb (ix2 r k)) _ _
      (by blk_simp [e0]; simp; omega) (by blk_simp [e0])
  have hb : ∀ k, (iblk m c 1 t : S1024x2048.Idx → EReal) (ix2 r k)
      = (V m c main_arg1 : S16384x2048.Idx → EReal) (ix2 ⟨1024 * (t.val / 4) + r.val, row⟩ k) := fun k =>
    read_2 (V m c main_arg1 : S16384x2048.Idx → EReal) (((cfg0.win 1).blk t).view.emb (ix2 r k)) _ _
      (by blk_simp [e1]; simp; omega) (by blk_simp [e1])
  have hza : (iblk m c 2 t : S1024x512.Idx → EReal) (ix2 r j)
      = (V m c main_arg2 : S16384x16384.Idx → EReal) (ix2 ⟨1024 * (t.val / 4) + r.val, row⟩ ⟨12288 + (512 * (t.val % 4) + j.val), by omega⟩) :=
    read_2 (V m c main_arg2 : S16384x16384.Idx → EReal) (((cfg0.win 2).blk t).view.emb (ix2 r j)) _ _
      (by blk_simp [e2]; simp; omega) (by blk_simp [e2]; simp; omega)
  have hzb : (iblk m c 3 t : S1024x512.Idx → EReal) (ix2 r j)
      = (V m c main_arg2 : S16384x16384.Idx → EReal) (ix2 ⟨1024 * (t.val / 4) + r.val, row⟩ ⟨14336 + (512 * (t.val % 4) + j.val), by omega⟩) :=
    read_2 (V m c main_arg2 : S16384x16384.Idx → EReal) (((cfg0.win 3).blk t).view.emb (ix2 r j)) _ _
      (by blk_simp [e3]; simp; omega) (by blk_simp [e3]; simp; omega)
  have hwa : ∀ k, (iblk m c 4 t : S2048x512.Idx → EReal) (ix2 k j)
      = (V m c main_v1 : S2048x2048.Idx → EReal) (ix2 k ⟨512 * (t.val % 4) + j.val, col⟩) := fun k =>
    read_2 (V m c main_v1 : S2048x2048.Idx → EReal) (((cfg0.win 4).blk t).view.emb (ix2 k j)) _ _
      (by blk_simp [e4]) (by blk_simp [e4]; simp; omega)
  have hwb : ∀ k, (iblk m c 5 t : S2048x512.Idx → EReal) (ix2 k j)
      = (V m c main_v3 : S2048x2048.Idx → EReal) (ix2 k ⟨512 * (t.val % 4) + j.val, col⟩) := fun k =>
    read_2 (V m c main_v3 : S2048x2048.Idx → EReal) (((cfg0.win 5).blk t).view.emb (ix2 k j)) _ _
      (by blk_simp [e5]) (by blk_simp [e5]; simp; omega)
  have hy : out m c (((cfg0.win 6).blk t).view.emb (ix2 r j))
      = out m c (ix2 ⟨1024 * (t.val / 4) + r.val, row⟩ ⟨512 * (t.val % 4) + j.val, col⟩) :=
    read_2 _ _ _ _ (by blk_simp [e6]; simp; omega) (by blk_simp [e6]; simp; omega)
  refine Eq.trans ?_ hy.symm
  exact congrArg₂ (· + ·)
    (congrArg₂ (· * ·) (congrArg gate (hza.trans (congrFun (V_main_arg2 m c) _))) (Finset.sum_congr rfl fun k _ =>
      congrArg₂ (· * ·) ((ha k).trans (congrFun (V_main_arg0 m c) _)) ((hwa k).trans (weights_a m c k _))))
    (congrArg₂ (· * ·) (congrArg gate (hzb.trans (congrFun (V_main_arg2 m c) _))) (Finset.sum_congr rfl fun k _ =>
      congrArg₂ (· * ·) ((hb k).trans (congrFun (V_main_arg1 m c) _)) ((hwb k).trans (weights_b m c k _))))
end kernel

section reference
open Cert.Reference3Ideal
/-- A gate's columns, at an index. -/
theorem gate_at (z : FVec Ideal S16384x16384 .bf16) (o : Nat) (ho : o + 2048 ≤ 16384) (h : S16384x16384.Slices ![0, o] S16384x2048)
    (r : Fin 16384) (j : Fin 2048) :
    (Host.divf (broadcastInDim S16384x2048 ![] Gen.facts.bcast_S_S16384x2048 (constant (F := Ideal) S_ .f32 0x3F800000#32))
      (addf (broadcastInDim S16384x2048 ![] Gen.facts.bcast_S_S16384x2048 (constant (F := Ideal) S_ .f32 0x3F800000#32))
        (Host.exp (Host.negf (extf .f32 (extractStridedSlice S16384x2048 ![0, o] z h) Gen.facts.bitsLt_bf16_f32)))) (ix2 r j) : EReal)
      = gate (z (ix2 r ⟨o + j.val, by omega⟩)) := by
  pointwise

/-- A branch's projection, at an index. -/
theorem prod_at (y : FVec Ideal S16384x2048 .bf16) (w : FVec Ideal S1x2048x2048 .f32) (r : Fin 16384) (j : Fin 2048) :
    (Host.dotGeneral dot_S16384x2048_S2048x2048_S16384x2048_1_0_0_1_n_n none (extf .f32 y Gen.facts.bitsLt_bf16_f32)
      (shapeCast _ w Gen.facts.shapeCasts_S1x2048x2048_S2048x2048) (ix2 r j) : EReal) = ∑ k, y (ix2 r k) * w (ix3 0 k j) := by
  pointwise

variable (m : (ℓ : Loc nD τ sig) → Buf (Elt Ideal) ℓ) (ρ : Dev nD → PrngReg)

theorem reference_run : θ_run defs (onTc (τ := τ) (main (F := Ideal))) ⟨m, fun _ => 0, ρ⟩ fun r => ∀ c : Dev nD,
      r.2.mem ((c.tc : Thread nD τ).loc main_v25) = array (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run (F := Ideal) m ρ)
  funext i
  obtain ⟨r, j, rfl⟩ : ∃ (r : Fin 16384) (j : Fin 2048), i = ix2 r j := ⟨i 0, i 1, ValueIdx.eq_ix2 i⟩
  exact congrArg₂ (· + ·) (congrArg₂ (· * ·) (gate_at _ 12288 (by decide) _ r j) (prod_at _ _ r j))
    (congrArg₂ (· * ·) (gate_at _ 14336 (by decide) _ r j) (prod_at _ _ r j))
end reference

end Cert.Merge

end
-- ==== Proof.Residual.lean ====
/- The output projection with its residual: what the kernel's array and the reference's array hold. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.ReadAt
public import Idealize.ShloMosaic.Lib.Pointwise
public import proofs.«01_k».proof.Proof.Reads

@[expose] public section

set_option maxRecDepth 16384

noncomputable section

namespace Cert.Residual

open Idealize.ShloMosaic Idealize.ShloMosaic.TcCoe Idealize.SL.Sem
open scoped BigOperators

/-- The row of the input sequence beside which the product's row is added. -/
def array (a : (⟨2, ![16384, 2048]⟩ : Shape).Idx → EReal) (w : (⟨3, ![1, 2048, 2048]⟩ : Shape).Idx → EReal)
    (x : (⟨3, ![4, 4096, 2048]⟩ : Shape).Idx → EReal) (i : (⟨2, ![16384, 2048]⟩ : Shape).Idx) : EReal :=
  x (ix3 ⟨(i 0).val / 4096, by have := (i 0).isLt; have : (i 0).val < 16384 := this; omega⟩ ⟨(i 0).val % 4096, Nat.mod_lt _ (by decide)⟩ (i 1))
    + ∑ k, a (ix2 (i 0) k) * w (ix3 0 k (i 1))

section kernel
open Cert.Kernel4Ideal Cert.Kernel4Ideal.Gen
variable (m : (ℓ : Loc nD τ sig) → Buf (Elt Ideal) ℓ) (c : Dev nD)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] := by decide +kernel

/-- What the body leaves at an index of its block. -/
theorem pay_at (X : FVec Ideal S1024x512 .f32) (A : FVec Ideal S1024x2048 .bf16) (W : FVec Ideal S2048x512 .bf16)
    (r : Fin 1024) (j : Fin 512) :
    (k0_pay1 (F := Ideal) X A W (ix2 r j) : EReal) = X (ix2 r j) + ∑ k, A (ix2 r k) * W (ix2 k j) := by
  unfold k0_pay1
  pointwise

/-- The arrays the region finds, by the host operations before it. -/
theorem weights_at (k : Fin 2048) (j : Fin 2048) :
    (V m c main_v1 (ix2 k j) : EReal) = (m ((c : Thread nD τ).loc main_arg1) : S1x2048x2048.Idx → EReal) (ix3 0 k j) := by
  unfold V
  after_reads_at

theorem input_at (r : Fin 16384) (j : Fin 2048) :
    (V m c main_v2 (ix2 r j) : EReal) = (m ((c : Thread nD τ).loc main_arg2) : S4x4096x2048.Idx → EReal)
      (ix3 ⟨r.val / 4096, by omega⟩ ⟨r.val % 4096, Nat.mod_lt _ (by decide)⟩ j) := by
  unfold V
  after_reads_at

/-- What both programs leave. -/
abbrev out : (⟨2, ![16384, 2048]⟩ : Shape).Idx → EReal :=
  array (m ((c : Thread nD τ).loc main_arg0)) (m ((c : Thread nD τ).loc main_arg1)) (m ((c : Thread nD τ).loc main_arg2))

theorem kernel_eq : (dats m 0 c).arrAt 3 cfg0.N = out m c := by
  refine (dats m 0 c).arrAt_eq_of_covers 3 _ (by decide +kernel) fun t hf y => ?_
  blk_simp
  rw [after0_3]
  frame_out
  obtain ⟨r, j, rfl⟩ : ∃ (r : Fin 1024) (j : Fin 512), y = ix2 r j := ⟨y 0, y 1, ValueIdx.eq_ix2 y⟩
  refine (pay_at _ _ _ r j).trans ?_
  have ht : t.val < 64 := t.isLt
  obtain ⟨e0, e1, e2, e3⟩ := idx t
  have row : 1024 * (t.val / 4) + r.val < 16384 := by omega
  have col : 512 * (t.val % 4) + j.val < 2048 := by omega
  have hx : (iblk m c 2 t : S1024x512.Idx → EReal) (ix2 r j)
      = (V m c main_v2 : S16384x2048.Idx → EReal) (ix2 ⟨1024 * (t.val / 4) + r.val, row⟩ ⟨512 * (t.val % 4) + j.val, col⟩) :=
    read_2 (V m c main_v2 : S16384x2048.Idx → EReal) (((cfg0.win 2).blk t).view.emb (ix2 r j)) _ _
      (by blk_simp [e2]; simp; omega) (by blk_simp [e2]; simp; omega)
  have ha : ∀ k, (iblk m c 0 t : S1024x2048.Idx → EReal) (ix2 r k)
      = (V m c main_arg0 : S16384x2048.Idx → EReal) (ix2 ⟨1024 * (t.val / 4) + r.val, row⟩ k) := fun k =>
    read_2 (V m c main_arg0 : S16384x2048.Idx → EReal) (((cfg0.win 0).blk t).view.emb (ix2 r k)) _ _
      (by blk_simp [e0]; simp; omega) (by blk_simp [e0])
  have hw : ∀ k, (iblk m c 1 t : S2048x512.Idx → EReal) (ix2 k j)
      = (V m c main_v1 : S2048x2048.Idx → EReal) (ix2 k ⟨512 * (t.val % 4) + j.val, col⟩) := fun k =>
    read_2 (V m c main_v1 : S2048x2048.Idx → EReal) (((cfg0.win 1).blk t).view.emb (ix2 k j)) _ _
      (by blk_simp [e1]) (by blk_simp [e1]; simp; omega)
  have hy : out m c
      (((cfg0.win 3).blk t).view.emb (ix2 r j)) = out m c (ix2 ⟨1024 * (t.val / 4) + r.val, row⟩ ⟨512 * (t.val % 4) + j.val, col⟩) :=
    read_2 _ _ _ _ (by blk_simp [e3]; simp; omega) (by blk_simp [e3]; simp; omega)
  refine Eq.trans ?_ hy.symm
  exact congrArg₂ (· + ·) (hx.trans (input_at m c _ _)) (Finset.sum_congr rfl fun k _ =>
    congrArg₂ (· * ·) ((ha k).trans (congrFun (V_main_arg0 m c) _)) ((hw k).trans (weights_at m c k _)))
end kernel

section reference
open Cert.Reference4Ideal

theorem reference_eq (a : FVec Ideal S16384x2048 .bf16) (w : FVec Ideal S1x2048x2048 .f32) (x : FVec Ideal S4x4096x2048 .f32) :
    (addf (shapeCast _ x Gen.facts.shapeCasts_S4x4096x2048_S16384x2048) (Host.dotGeneral dot_S16384x2048_S2048x2048_S16384x2048_1_0_0_1_n_n none
      (extf .f32 a Gen.facts.bitsLt_bf16_f32) (shapeCast _ w Gen.facts.shapeCasts_S1x2048x2048_S2048x2048)) : FVec Ideal S16384x2048 .f32) = array a w x := by
  funext i
  rw [ValueIdx.eq_ix2 (n0 := 16384) (n1 := 2048) i]
  pointwise
  rfl

variable (m : (ℓ : Loc nD τ sig) → Buf (Elt Ideal) ℓ) (c : Dev nD) (ρ : Dev nD → PrngReg)

theorem reference_run : θ_run defs (onTc (τ := τ) (main (F := Ideal))) ⟨m, fun _ => 0, ρ⟩ fun r => ∀ c : Dev nD,
      r.2.mem ((c.tc : Thread nD τ).loc main_v4) = array (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (reference_eq _ _ _), (h c).2⟩) (Value.run (F := Ideal) m ρ)
end reference

end Cert.Residual

end
-- ==== Proof.QueryRun.lean ====
/- The run of the query projection's body on whole staging memrefs: at a point that starts a block of rows, which
   normalises it, keeps it and writes it out transposed; and at the point after, which only multiplies what is kept. -/
module

public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.VecWindow

@[expose] public section

set_option maxRecDepth 16384

noncomputable section

namespace Cert.Kernel5Ideal.Query

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body normalises at the first of a block's two column tiles. -/
theorem first_iff : ∀ t : Fin cfg0.N, k0_cond1 (grid0.coords t) = 1#1 ↔ t.val % 2 = 0 := by decide +kernel

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S512x1024 .f32) (harg5 : arg5.IsWhole)
  (arg6 : Memref sig .tc .vmem S2048x512 .bf16) (harg6 : arg6.IsWhole)
  (arg7 : Memref sig .tc .vmem S512x2048 .bf16) (harg7 : arg7.IsWhole)
  (x : Vec F S512x2048 .f32) (g : Vec F S1x2048 .f32) (w : Vec F S2048x1024 .bf16)

/-- At the first column tile: the rows normalised are kept, and written out transposed. -/
theorem run_first (hc : k0_cond1 i = 1#1) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w
          ∗ owns (c : Thread nD τ) arg5 fullShare (k0_pay4 (k0_pay2 x g) w) ∗ owns (c : Thread nD τ) arg6 fullShare (k0_pay3 x g)
          ∗ owns (c : Thread nD τ) arg7 fullShare (k0_pay2 x g)) -∗ K ⟨⟩))
      ⊢ wp Idealize.ShloMosaic.frame (wpE (defs₀ (F := F)) Variants.none c none) Set.univ
        (cc0_norm_matmul_xn i arg2 harg2 arg3 harg3 arg4 harg4 arg5 harg5 arg6 harg6 arg7 harg7) K := by
  simp only [cc0_norm_matmul_xn_eq_skeleton]; unfold cc0_norm_matmul_xn_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec (disch := first | sl_exact hc)
  sl_step
  iapply Hk
  isplitl [H2]; · iexists _; isplitr; swap; (iexact H2); ipureintro; exact harg2.read_unread _
  isplitl [H3]; · iexists _; isplitr; swap; (iexact H3); ipureintro; exact harg3.read_unread _
  isplitl [H4]; · iexists _; isplitr; swap; (iexact H4); ipureintro; exact harg4.read_unread _
  isplitl [H5]
  · iexists _; isplitr; swap; (iexact H5); ipureintro
    refine (View.read_writes_full _ _ _ _ _).trans (congrArg₂ k0_pay4 ?_ ((View.readAt_full _ _ _).trans (harg4.read_unread _)))
    unfold run_first.sl.v3 run_first.sl.H7_1
    exact (View.readCov_full _ _ _ _ _).trans (congrArg₂ k0_pay2 ((View.readAt_full _ _ _).trans (harg2.read_unread _))
      ((View.readAt_full _ _ _).trans (harg3.read_unread _)))
  isplitl [H6]
  · iexists _; isplitr; swap; (iexact H6); ipureintro
    exact (View.read_writes_full _ _ _ _ _).trans (congrArg₂ k0_pay3 ((View.readAt_full _ _ _).trans (harg2.read_unread _))
      ((View.readAt_full _ _ _).trans (harg3.read_unread _)))
  iexists _; isplitr; swap; (iexact H7); ipureintro
  unfold run_first.sl.H7_1
  exact (View.read_writes_full _ _ _ _ _).trans (congrArg₂ k0_pay2 ((View.readAt_full _ _ _).trans (harg2.read_unread _))
    ((View.readAt_full _ _ _).trans (harg3.read_unread _)))

/-- At the second: what is kept times the tile's columns of the weights; the transposed block stays as it is. -/
theorem run_second (hc : ¬k0_cond1 i = 1#1) (y : Vec F S512x2048 .bf16) (z : Vec F S2048x512 .bf16) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare z ∗ owns (c : Thread nD τ) arg7 fullShare y
        ∗ (iprop(owns (c : Thread nD τ) arg2 fullShare x ∗ owns (c : Thread nD τ) arg3 fullShare g ∗ owns (c : Thread nD τ) arg4 fullShare w
          ∗ owns (c : Thread nD τ) arg5 fullShare (k0_pay4 y w) ∗ owns (c : Thread nD τ) arg6 fullShare z
          ∗ owns (c : Thread nD τ) arg7 fullShare y) -∗ K ⟨⟩))
      ⊢ wp Idealize.ShloMosaic.frame (wpE (defs₀ (F := F)) Variants.none c none) Set.univ
        (cc0_norm_matmul_xn i arg2 harg2 arg3 harg3 arg4 harg4 arg5 harg5 arg6 harg6 arg7 harg7) K := by
  simp only [cc0_norm_matmul_xn_eq_skeleton]; unfold cc0_norm_matmul_xn_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf2; obtain rfl := harg3.eq_unread hf3; obtain rfl := harg4.eq_unread hf4; obtain rfl := harg6.eq_unread hf6; obtain rfl := harg7.eq_unread hf7
  sl_exec (disch := first | sl_exact hc)
  sl_step
  iapply Hk
  isplitl [H2]; · iexists _; isplitr; swap; (iexact H2); ipureintro; exact harg2.read_unread _
  isplitl [H3]; · iexists _; isplitr; swap; (iexact H3); ipureintro; exact harg3.read_unread _
  isplitl [H4]; · iexists _; isplitr; swap; (iexact H4); ipureintro; exact harg4.read_unread _
  isplitl [H5]
  · iexists _; isplitr; swap; (iexact H5); ipureintro
    exact (View.read_writes_full _ _ _ _ _).trans (congrArg₂ k0_pay4 ((View.readAt_full _ _ _).trans (harg7.read_unread _))
      ((View.readAt_full _ _ _).trans (harg4.read_unread _)))
  isplitl [H6]; · iexists _; isplitr; swap; (iexact H6); ipureintro; exact harg6.read_unread _
  iexists _; isplitr; swap; (iexact H7); ipureintro; exact harg7.read_unread _

end Cert.Kernel5Ideal.Query

end
-- ==== Proof.QueryFrame.lean ====
/- The frame of the query projection: what its staging buffers and its kept rows hold after every grid point, the body's
   obligation at a point, and the run of the whole program. -/
module

public import proofs.«01_k».proof.Proof.QueryRun
public import Idealize.ShloMosaic.Lib.Claim
public import Idealize.ShloMosaic.Lib.Pipeline.FrameBody

@[expose] public section

set_option maxRecDepth 16384

noncomputable section

namespace Cert.Kernel5Ideal.Query

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the block of rows a point is in. -/
def first (t : Fin cfg0.N) : Fin cfg0.N := ⟨2 * (t.val / 2), lt_of_le_of_lt (Nat.mul_div_le _ _) t.isLt⟩

theorem first_self (t : Fin cfg0.N) (h : t.val % 2 = 0) : first t = t := Fin.ext (by unfold first; dsimp only; omega)

theorem first_prev (t : Fin cfg0.N) (h : ¬t.val % 2 = 0) : first ⟨t.val - 1, Nat.lt_of_le_of_lt (Nat.sub_le _ _) t.isLt⟩ = first t :=
  Fin.ext (by unfold first; dsimp only; omega)

/-- The rows kept after a point; the same rows transposed, as they are written out; and the point's tile of the product. -/
def rows (c : Dev nD) (t : Fin cfg0.N) : Vec F S512x2048 .bf16 := k0_pay2 (iblk m c 0 (first t)) (iblk m c 1 (first t))
def turned (c : Dev nD) (t : Fin cfg0.N) : Vec F S2048x512 .bf16 := k0_pay3 (iblk m c 0 (first t)) (iblk m c 1 (first t))
def tile (c : Dev nD) (t : Fin cfg0.N) : Vec F S512x1024 .f32 := k0_pay4 (rows m c t) (iblk m c 2 t)

/-- Before point `n`: the kept rows, at anything before the first point, then at what the point before left. -/
def Phi (c : Dev nD) : (n : ℕ) → n ≤ cfg0.N → sProp 𝕄
  | 0, _ => Pipeline.ΦA spec0 c
  | n + 1, hn => iprop(owns (c : Thread nD τ) (Memref.whole cc0_scratch0) fullShare (rows m c ⟨n, hn⟩) ∗ (∃ r, prngReg c r))

theorem scratch_eq (c : Dev nD) : (Pipeline.ΦA spec0 c : sProp 𝕄)
    = iprop(iprop((∃ d, owns (c : Thread nD τ) (Memref.whole cc0_scratch0) fullShare d)) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(owns (c : Thread nD τ) (Memref.whole cc0_scratch0) fullShare (rows m c ⟨n - 1, by omega⟩) ∗ (∃ r, prngReg c r)) := by
  cases n with
  | zero => exact absurd rfl hz
  | succ n => rfl

/-- At any point the kept rows are at something. -/
theorem Phi_any (c : Dev nD) (n : ℕ) (h : n ≤ cfg0.N) :
    Phi m c n h ⊢ iprop((∃ d, owns (c : Thread nD τ) (Memref.whole cc0_scratch0) fullShare d) ∗ (∃ r, prngReg c r)) := by
  by_cases hz : n = 0
  · subst hz
    rw [show Phi m c 0 h = Pipeline.ΦA spec0 c from rfl, scratch_eq]
    try exact Idealize.SL.BI.Entails.refl _
  · rw [Phi_pos m c n h hz]
    iintro ⟨HS, Hg⟩
    isplitl [HS]
    · iexists _; iexact HS
    iexact Hg

/-- What the arrays hold where the pipeline starts, what each staging buffer holds after a point, and the kept rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile m c t
    | ⟨4, _⟩ => turned m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = tile m c t := by dsimp only [dats]
theorem after_4 (c : Dev nD) (t : Fin cfg0.N) : (dats m 0 c).after 4 t = turned m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The points that leave the transposed block alone. -/
theorem idle_iff (t : Fin cfg0.N) : cfg0.idle 4 (cfg0.grid.coords t) = true ↔ ¬t.val % 2 = 0 := by
  rw [← first_iff t]
  show (!(k0_cond1 (grid0.coords t) == 1#1)) = true ↔ _
  simp

/-- At the second column tile the transposed block's buffer holds what the first left. -/
theorem before_4 (c : Dev nD) (t : Fin cfg0.N) (h : ¬t.val % 2 = 0) (d) : (dats m 0 c).before 4 t d = turned m c t := by
  have hz : t.val ≠ 0 := fun h0 => h (by rw [h0])
  rw [(dats m 0 c).before_of_pos 4 t hz ((cfg0.win 4).fetch_out rfl t) d, if_neg (by rw [flush0_4]; dsimp only; omega)]
  unfold Pipeline.Dat.left
  have hi : cfg0.idle 4 (cfg0.grid.coords ⟨t.val - 1, Nat.lt_of_le_of_lt (Nat.sub_le _ _) t.isLt⟩) = false := by
    rw [← Bool.not_eq_true, idle_iff]; dsimp only; omega
  rw [hi]
  show (dats m 0 c).after 4 _ = _
  rw [after_4]
  unfold turned
  rw [first_prev t h]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at a point: the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    after_0, after_1, after_2, after_3, after_4,
    show (dats m 0 c).Φ t.succ = iprop(owns (c : Thread nD τ) (Memref.whole cc0_scratch0) fullShare (rows m c t) ∗ (∃ r, prngReg c r)) from rfl,
    Phi_castSucc m c t]
  by_cases h0 : t.val % 2 = 0
  · unfold tile rows turned
    rw [first_self t h0]
    iintro ⟨HP, Ho, ⟨%d0, H0⟩, ⟨%d1, H1⟩, ⟨%d2, H2⟩, ⟨%d3, H3⟩, ⟨%d4, H4⟩⟩
    ihave HP := (Phi_any m c t.val (Nat.le_of_lt t.isLt)) $$ HP
    icases HP with ⟨HS, Hg⟩
    iapply (run_first c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (Memref.whole cc0_scratch0) (Memref.isWhole_whole _) (iblk m c 0 t) (iblk m c 1 t) (iblk m c 2 t) ((first_iff t).mpr h0) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    have hr : rows m c ⟨t.val - 1, Nat.lt_of_le_of_lt (Nat.sub_le _ _) t.isLt⟩ = rows m c t := by
      unfold rows; rw [first_prev t h0]
    simp only [before_4 m c t h0]
    rw [Phi_pos m c _ _ hz, hr]
    unfold tile
    iintro ⟨⟨HS, Hg⟩, Ho, ⟨%d0, H0⟩, ⟨%d1, H1⟩, ⟨%d2, H2⟩, ⟨%d3, H3⟩, ⟨%d4, H4⟩⟩
    iapply (run_second c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (Memref.whole cc0_scratch0) (Memref.isWhole_whole _) (iblk m c 0 t) (iblk m c 1 t) (iblk m c 2 t) (fun h => h0 ((first_iff t).mp h)) (rows m c t) (turned m c t) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The body the pipeline calls at a point is the body at that point's staging buffers. -/
theorem body_row (t : Fin cfg0.N) :
    defs₀ (F := F) .tc cfg0.body (cfg0.bodyArgs t (cfg0.slots t)) = bodyAt0 t := by
  unfold defs₀; rw [Defs.onTc_tc]

/-- A point that leaves the transposed block alone writes it back. -/
theorem idle_flush (t : Fin cfg0.N) (h : cfg0.idle 4 (cfg0.grid.coords t) = true) : (cfg0.win 4).flush t = true :=
  (flush0_4 t).mpr (by have := (idle_iff t).mp h; omega)

theorem obligation (c : Dev nD) : BodyObligation (dats (F := F) m 0 c) (defs₀ (F := F)) Variants.none () Set.univ := fun t => by
  rw [bigSep_W0, bigSep_W0, body_row]
  refine triple_restated (sound_body m c t) rfl .rfl fun _ => ?_
  unfold bodyPost
  by_cases h : idle0 4 (grid0.coords t) = true
  · have hf : (win0 4).flush t = true := idle_flush t h
    simp only [h, hf]
    exact Idealize.SL.BI.Entails.refl _
  · rw [Bool.not_eq_true] at h
    simp only [h]
    exact Idealize.SL.BI.Entails.refl _

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl, scratch_eq]
  exact Phi_any m c _ _

-- the launch rule's implicit arguments are found by unifying its conclusion with the statement
set_option backward.isDefEq.respectTransparency.types false in
/-- The run: every array of the pipeline ends at what the points' blocks make of it, everything else as it was, and every
    semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged, and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel5Ideal.Query

end
-- ==== Proof.Query.lean ====
/- The query projection: what the kernel's two arrays and the reference's two arrays hold, the normalised rows times the
   weights and the normalised rows transposed. -/
module

public import proofs.«01_k».proof.Proof.QueryFrame
public import proofs.«01_k».proof.Proof.InProj
public import proofs.«01_k».proof.Proof.Gen.Reference5Ideal.Run

@[expose] public section

set_option maxRecDepth 16384

noncomputable section

namespace Cert.Query

open Idealize.ShloMosaic Idealize.ShloMosaic.TcCoe Idealize.SL.Sem
open scoped BigOperators

open Cert.InProj (normed)

/-- The normalised rows times the weights. -/
def product (x : (⟨2, ![16384, 2048]⟩ : Shape).Idx → EReal) (g : (⟨2, ![1, 2048]⟩ : Shape).Idx → EReal)
    (w : (⟨3, ![1, 2048, 2048]⟩ : Shape).Idx → EReal) (i : (⟨2, ![16384, 2048]⟩ : Shape).Idx) : EReal :=
  ∑ k, normed (fun k => x (ix2 (i 0) k)) (fun k => g (ix2 0 k)) k * w (ix3 0 k (i 1))

/-- The normalised rows, transposed. -/
def turned (x : (⟨2, ![16384, 2048]⟩ : Shape).Idx → EReal) (g : (⟨2, ![1, 2048]⟩ : Shape).Idx → EReal)
    (i : (⟨2, ![2048, 16384]⟩ : Shape).Idx) : EReal :=
  normed (fun k => x (ix2 (i 1) k)) (fun k => g (ix2 0 k)) (i 0)

section kernel
open Cert.Kernel5Ideal Cert.Kernel5Ideal.Gen Cert.Kernel5Ideal.Query
variable (m : (ℓ : Loc nD τ sig) → Buf (Elt Ideal) ℓ) (ρ : Dev nD → PrngReg) (c : Dev nD)

theorem idx : ∀ t : Fin cfg0.N, win0_0.index t = ![t.val / 2, 0] ∧ win0_1.index t = ![0, 0]
    ∧ win0_2.index t = ![0, t.val % 2] ∧ win0_3.index t = ![t.val / 2, t.val % 2] ∧ win0_4.index t = ![0, t.val / 2] := by decide +kernel

/-- What the body keeps, what it writes out transposed, and its tile of the product, at an index. -/
theorem norm_at (X : FVec Ideal S512x2048 .f32) (G : FVec Ideal S1x2048 .f32) (r : Fin 512) (k : Fin 2048) :
    (k0_pay1 (F := Ideal) X G (ix2 r k) : EReal) = normed (fun k => X (ix2 r k)) (fun k => G (ix2 0 k)) k := by
  unfold k0_pay1
  pointwise
  rfl

theorem kept_at (X : FVec Ideal S512x2048 .f32) (G : FVec Ideal S1x2048 .f32) (r : Fin 512) (k : Fin 2048) :
    (k0_pay2 (F := Ideal) X G (ix2 r k) : EReal) = normed (fun k => X (ix2 r k)) (fun k => G (ix2 0 k)) k := by
  refine Eq.trans ?_ (norm_at X G r k)
  unfold k0_pay2
  pointwise

theorem turned_at (X : FVec Ideal S512x2048 .f32) (G : FVec Ideal S1x2048 .f32) (r : Fin 512) (k : Fin 2048) :
    (k0_pay3 (F := Ideal) X G (ix2 k r) : EReal) = normed (fun k => X (ix2 r k)) (fun k => G (ix2 0 k)) k := by
  refine Eq.trans ?_ (norm_at X G r k)
  unfold k0_pay3
  pointwise

theorem prod_at (A : FVec Ideal S512x2048 .bf16) (W : FVec Ideal S2048x1024 .bf16) (r : Fin 512) (j : Fin 1024) :
    (k0_pay4 (F := Ideal) A W (ix2 r j) : EReal) = ∑ k, A (ix2 r k) * W (ix2 k j) := by
  unfold k0_pay4
  pointwise

/-- The arrays the region finds, by the host operations before it. -/
theorem scale_at (k : Fin 2048) :
    (V m c main_v3 (ix2 0 k) : EReal) = (m ((c : Thread nD τ).loc main_arg1) : S1x2048.Idx → EReal) (ix2 0 k) := by
  unfold V
  after_reads_at

theorem weights_at (k : Fin 2048) (j : Fin 2048) :
    (V m c main_v2 (ix2 k j) : EReal) = (m ((c : Thread nD τ).loc main_arg2) : S1x2048x2048.Idx → EReal) (ix3 0 k j) := by
  unfold V
  after_reads_at

/-- The rows and the norm's weights a point's block is made from. -/
theorem rows_at (t : Fin cfg0.N) (r : Fin 512) (h : 512 * (t.val / 2) + r.val < 16384) (k : Fin 2048) :
    (iblk m c 0 (first t) : S512x2048.Idx → EReal) (ix2 r k)
      = (m ((c : Thread nD τ).loc main_arg0) : S16384x2048.Idx → EReal) (ix2 ⟨512 * (t.val / 2) + r.val, h⟩ k) := by
  obtain ⟨e, -⟩ := idx (first t)
  have hd : (first t).val / 2 = t.val / 2 := by unfold first; dsimp only; omega
  rw [hd] at e
  refine (read_2 (V m c main_arg0 : S16384x2048.Idx → EReal) (((cfg0.win 0).blk (first t)).view.emb (ix2 r k)) ⟨512 * (t.val / 2) + r.val, h⟩ k
    (by blk_simp [e]; simp; omega) (by blk_simp [e])).trans ?_
  rw [V_main_arg0]

theorem gain_at (t : Fin cfg0.N) (k : Fin 2048) :
    (iblk m c 1 t : S1x2048.Idx → EReal) (ix2 0 k) = (m ((c : Thread nD τ).loc main_arg1) : S1x2048.Idx → EReal) (ix2 0 k) := by
  obtain ⟨-, e, -⟩ := idx t
  exact (read_2 (V m c main_v3 : S1x2048.Idx → EReal) (((cfg0.win 1).blk t).view.emb (ix2 0 k)) 0 k
    (by blk_simp [e]) (by blk_simp [e])).trans (scale_at m c k)

/-- What both programs leave. -/
abbrev out0 : (⟨2, ![16384, 2048]⟩ : Shape).Idx → EReal :=
  product (m ((c : Thread nD τ).loc main_arg0)) (m ((c : Thread nD τ).loc main_arg1)) (m ((c : Thread nD τ).loc main_arg2))
abbrev out1 : (⟨2, ![2048, 16384]⟩ : Shape).Idx → EReal :=
  turned (m ((c : Thread nD τ).loc main_arg0)) (m ((c : Thread nD τ).loc main_arg1))

theorem product_eq : (dats m 0 c).arrAt 3 cfg0.N = out0 m c := by
  refine (dats m 0 c).arrAt_eq_of_covers 3 _ (by decide +kernel) fun t hf y => ?_
  blk_simp
  rw [after_3]
  obtain ⟨r, j, rfl⟩ : ∃ (r : Fin 512) (j : Fin 1024), y = ix2 r j := ⟨y 0, y 1, ValueIdx.eq_ix2 y⟩
  refine (prod_at _ _ r j).trans ?_
  have ht : t.val < 64 := t.isLt
  obtain ⟨-, -, e2, e3, -⟩ := idx t
  have row : 512 * (t.val / 2) + r.val < 16384 := by omega
  have col : 1024 * (t.val % 2) + j.val < 2048 := by omega
  have hw : ∀ k, (iblk m c 2 t : S2048x1024.Idx → EReal) (ix2 k j)
      = (V m c main_v2 : S2048x2048.Idx → EReal) (ix2 k ⟨1024 * (t.val % 2) + j.val, col⟩) := fun k =>
    read_2 (V m c main_v2 : S2048x2048.Idx → EReal) (((cfg0.win 2).blk t).view.emb (ix2 k j)) _ _
      (by blk_simp [e2]) (by blk_simp [e2]; simp; omega)
  have hy : out0 m c (((cfg0.win 3).blk t).view.emb (ix2 r j))
      = out0 m c (ix2 ⟨512 * (t.val / 2) + r.val, row⟩ ⟨1024 * (t.val % 2) + j.val, col⟩) :=
    read_2 _ _ _ _ (by blk_simp [e3]; simp; omega) (by blk_simp [e3]; simp; omega)
  refine Eq.trans ?_ hy.symm
  exact Finset.sum_congr rfl fun k _ => congrArg₂ (· * ·) ((kept_at _ _ r k).trans (congrArg₂ (normed · · k)
    (funext fun k => rows_at m c t r row k) (funext fun k => gain_at m c (first t) k))) ((hw k).trans (weights_at m c k _))

theorem turned_eq : (dats m 0 c).arrAt 4 cfg0.N = out1 m c := by
  refine (dats m 0 c).arrAt_eq_of_covers 4 _ (by decide +kernel) fun t hf y => ?_
  blk_simp
  rw [after_4]
  obtain ⟨k, r, rfl⟩ : ∃ (k : Fin 2048) (r : Fin 512), y = ix2 k r := ⟨y 0, y 1, ValueIdx.eq_ix2 y⟩
  refine (turned_at _ _ r k).trans ?_
  have ht : t.val < 64 := t.isLt
  obtain ⟨-, -, -, -, e4⟩ := idx t
  have row : 512 * (t.val / 2) + r.val < 16384 := by omega
  have hy : out1 m c (((cfg0.win 4).blk t).view.emb (ix2 k r)) = out1 m c (ix2 k ⟨512 * (t.val / 2) + r.val, row⟩) :=
    read_2 _ _ _ _ (by blk_simp [e4]) (by blk_simp [e4]; simp; omega)
  refine Eq.trans ?_ hy.symm
  exact congrArg₂ (normed · · k) (funext fun k => rows_at m c t r row k) (funext fun k => gain_at m c (first t) k)

/-- The kernel's run: its two arrays, and its arguments unchanged. -/
theorem kernel_run : θ_run defs (onTc (τ := τ) (main (F := Ideal))) ⟨m, fun _ => 0, ρ⟩ fun r => ∀ c : Dev nD,
      r.2.mem ((c.tc : Thread nD τ).loc main_v4_0) = out0 m c
      ∧ r.2.mem ((c.tc : Thread nD τ).loc main_v4_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (product_eq m c), ((h.1 c).1 4).trans (turned_eq m c), h.2.1 c⟩)
    (θ_run_and (run_main m ρ) (frame_main m ρ))
end kernel

section reference
open Cert.Reference5Ideal
/-- The normalised rows. -/
abbrev rows (x : FVec Ideal S16384x2048 .f32) (g : FVec Ideal S1x2048 .f32) : FVec Ideal S16384x2048 .f32 :=
  mulf (mulf x (broadcastInDim S16384x2048 ![0, 1] Gen.facts.bcast_S16384x1_S16384x2048_0_1 (Host.rsqrt (addf
      (Host.divf (broadcastInDim S16384x1 ![0] Gen.facts.bcast_S16384_S16384x1_0
          (Host.reduceAdd (mulf x x) (constant S_ .f32 0x00000000#32) Gen.facts.reducesTo_S16384x2048_S16384_d1 Gen.facts.h_S_))
        (broadcastInDim S16384x1 ![] Gen.facts.bcast_S_S16384x1 (constant S_ .f32 0x45000000#32)))
      (broadcastInDim S16384x1 ![] Gen.facts.bcast_S_S16384x1 (constant S_ .f32 0x358637BD#32))))))
      (broadcastInDim S16384x2048 ![0, 1] Gen.facts.bcast_S1x2048_S16384x2048_0_1
        (broadcastInDim S1x2048 ![1] Gen.facts.bcast_S2048_S1x2048_1 (shapeCast _ g Gen.facts.shapeCasts_S1x2048_S2048)))

/-- The normalised rows, at an index. -/
theorem normed_at (x : FVec Ideal S16384x2048 .f32) (g : FVec Ideal S1x2048 .f32) (r : Fin 16384) (k : Fin 2048) :
    (rows x g (ix2 r k) : EReal) = normed (fun k => x (ix2 r k)) (fun k => g (ix2 0 k)) k := by
  unfold rows
  pointwise
  rfl

/-- The product with the weights, and the transposed rows, at an index. -/
theorem product_at (y : FVec Ideal S16384x2048 .f32) (w : FVec Ideal S1x2048x2048 .f32) (r : Fin 16384) (j : Fin 2048) :
    (Host.dotGeneral dot_S16384x2048_S2048x2048_S16384x2048_1_0_0_1_n_n none y
      (shapeCast _ w Gen.facts.shapeCasts_S1x2048x2048_S2048x2048) (ix2 r j) : EReal) = ∑ k, y (ix2 r k) * w (ix3 0 k j) := by
  pointwise

theorem transposed_at (y : FVec Ideal S16384x2048 .f32) (r : Fin 16384) (k : Fin 2048) :
    (truncf .bf16 (transpose S2048x16384 [1, 0] y Gen.facts.transposes_S16384x2048_S2048x16384_1_0) Gen.facts.bitsLt_bf16_f32 (ix2 k r)
      : EReal) = y (ix2 r k) := by
  pointwise

variable (m : (ℓ : Loc nD τ sig) → Buf (Elt Ideal) ℓ) (ρ : Dev nD → PrngReg)

theorem reference_run : θ_run defs (onTc (τ := τ) (main (F := Ideal))) ⟨m, fun _ => 0, ρ⟩ fun r => ∀ c : Dev nD,
      r.2.mem ((c.tc : Thread nD τ).loc main_v15) = product (m ((c.tc : Thread nD τ).loc main_arg0)) (m ((c.tc : Thread nD τ).loc main_arg1))
        (m ((c.tc : Thread nD τ).loc main_arg2))
      ∧ r.2.mem ((c.tc : Thread nD τ).loc main_v17) = turned (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (Value.run (F := Ideal) m ρ)
  · funext i
    obtain ⟨r, j, rfl⟩ : ∃ (r : Fin 16384) (j : Fin 2048), i = ix2 r j := ⟨i 0, i 1, ValueIdx.eq_ix2 i⟩
    refine (product_at _ _ r j).trans ?_
    exact Finset.sum_congr rfl fun k _ => congrArg (· * _) (normed_at _ _ r k)
  · funext i
    obtain ⟨k, r, rfl⟩ : ∃ (k : Fin 2048) (r : Fin 16384), i = ix2 k r := ⟨i 0, i 1, ValueIdx.eq_ix2 i⟩
    exact (transposed_at _ r k).trans (normed_at _ _ r k)
end reference

end Cert.Query

end
-- ==== Proof.MetaProj.lean ====
/- The meta tokens' input projection: what the kernel's array and the reference's array hold. The sixteen rows are one
   block, normalised at the first column tile and kept for the others. -/
module

public import proofs.«01_k».proof.Proof.Gen.Kernel6Ideal.Value
public import proofs.«01_k».proof.Proof.Gen.Reference6Ideal.Run
public import Idealize.ShloMosaic.Lib.Pipeline.ValueKit.Held
public import Idealize.ShloMosaic.Lib.Pipeline.ValueKit
public import Idealize.ShloMosaic.Lib.Pipeline.ReadBack
public import Idealize.ShloMosaic.Lib.StableHlo.ReadAt
public import Idealize.ShloMosaic.Lib.Pointwise
public import proofs.«01_k».proof.Proof.Reads
public import proofs.«01_k».proof.Proof.InProj

@[expose] public section

set_option maxRecDepth 16384

noncomputable section

namespace Cert.MetaProj

open Idealize.ShloMosaic Idealize.ShloMosaic.TcCoe Idealize.SL.Sem
open Cert.InProj (normed)
open scoped BigOperators

/-- The normalised rows times the weights. -/
def array (x : (⟨2, ![16, 2048]⟩ : Shape).Idx → EReal) (g : (⟨2, ![1, 2048]⟩ : Shape).Idx → EReal)
    (w : (⟨3, ![1, 2048, 16384]⟩ : Shape).Idx → EReal) (i : (⟨2, ![16, 16384]⟩ : Shape).Idx) : EReal :=
  ∑ k, normed (fun k => x (ix2 (i 0) k)) (fun k => g (ix2 0 k)) k * w (ix3 0 k (i 1))

section kernel
open Cert.Kernel6Ideal Cert.Kernel6Ideal.Gen
variable (m : (ℓ : Loc nD τ sig) → Buf (Elt Ideal) ℓ) (c : Dev nD)

theorem idx : ∀ t : Fin cfg0.N, win0_0.index t = ![0, 0] ∧ win0_1.index t = ![0, 0]
    ∧ win0_2.index t = ![0, t.val % 16] ∧ win0_3.index t = ![0, t.val % 16] := by decide +kernel

/-- What the body keeps in its scratch, and what it leaves in its output block. -/
theorem norm_at (X : FVec Ideal S16x2048 .f32) (G : FVec Ideal S1x2048 .f32) (r : Fin 16) (k : Fin 2048) :
    (k0_pay1 (F := Ideal) X G (ix2 r k) : EReal) = normed (fun k => X (ix2 r k)) (fun k => G (ix2 0 k)) k := by
  unfold k0_pay1
  pointwise
  rfl

theorem prod_at (A : FVec Ideal S16x2048 .bf16) (W : FVec Ideal S2048x1024 .bf16) (r : Fin 16) (j : Fin 1024) :
    (k0_pay2 (F := Ideal) A W (ix2 r j) : EReal) = ∑ k, A (ix2 r k) * W (ix2 k j) := by
  unfold k0_pay2
  pointwise

/-- The scratch after a point: the block of rows normalised at the first point of its run. -/
theorem kept (t : Fin cfg0.N) : (outsAt0 m c t.val t.isLt).2
    = k0_pay1 (iblk m c 0 ⟨16 * (t.val / 16), by have := t.isLt; omega⟩) (iblk m c 1 ⟨16 * (t.val / 16), by have := t.isLt; omega⟩) := by
  refine Pipeline.eq_of_write_hold (fun n h => (outsAt0 m c n h).2) 16 (fun t => k0_pay1 (iblk m c 0 t) (iblk m c 1 t))
    (fun t h => ?_) (fun t h => ?_) t
  · rw [outsAt0_A m c t h]
    frame_out
  · rw [outsAt0_B m c t h]
    rfl

/-- The output block after a point: the kept rows times the point's columns of the weights. -/
theorem block (t : Fin cfg0.N) : (outsAt0 m c t.val t.isLt).1 = k0_pay2 (outsAt0 m c t.val t.isLt).2 (iblk m c 2 t) := by
  by_cases h : t.val % 16 = 0
  · rw [outsAt0_A m c t h]
    frame_out
  · rw [outsAt0_B m c t h]
    frame_out
    rw [read_unread_whole]
    rfl

/-- The arrays the region finds, by the host operations before it. -/
theorem input_at (r : Fin 16) (k : Fin 2048) :
    (V m c main_arg0 (ix2 r k) : EReal) = (m ((c : Thread nD τ).loc main_arg0) : S16x2048.Idx → EReal) (ix2 r k) := by
  rw [V_main_arg0]

theorem scale_at (k : Fin 2048) :
    (V m c main_v3 (ix2 0 k) : EReal) = (m ((c : Thread nD τ).loc main_arg1) : S1x2048.Idx → EReal) (ix2 0 k) := by
  unfold V
  after_reads_at

theorem weights_at (k : Fin 2048) (j : Fin 16384) :
    (V m c main_v2 (ix2 k j) : EReal) = (m ((c : Thread nD τ).loc main_arg2) : S1x2048x16384.Idx → EReal) (ix3 0 k j) := by
  unfold V
  after_reads_at

/-- What both programs leave. -/
abbrev out : (⟨2, ![16, 16384]⟩ : Shape).Idx → EReal :=
  array (m ((c : Thread nD τ).loc main_arg0)) (m ((c : Thread nD τ).loc main_arg1)) (m ((c : Thread nD τ).loc main_arg2))

theorem kernel_eq : (dats m 0 c).arrAt 3 cfg0.N = out m c := by
  refine (dats m 0 c).arrAt_eq_of_covers 3 _ (by decide +kernel) fun t hf y => ?_
  blk_simp
  rw [after0_3, block, kept]
  obtain ⟨r, j, rfl⟩ : ∃ (r : Fin 16) (j : Fin 1024), y = ix2 r j := ⟨y 0, y 1, ValueIdx.eq_ix2 y⟩
  refine (prod_at _ _ r j).trans ?_
  have ht : t.val < 16 := t.isLt
  have hs : 16 * (t.val / 16) < cfg0.N := lt_of_le_of_lt (Nat.mul_div_le _ _) t.isLt
  obtain ⟨e0, e1, -, -⟩ := idx ⟨16 * (t.val / 16), hs⟩
  obtain ⟨-, -, e2, e3⟩ := idx t
  have col : 1024 * (t.val % 16) + j.val < 16384 := by omega
  have hx : ∀ k, (iblk m c 0 ⟨16 * (t.val / 16), hs⟩ : S16x2048.Idx → EReal) (ix2 r k)
      = (V m c main_arg0 : S16x2048.Idx → EReal) (ix2 r k) := fun k =>
    read_2 (V m c main_arg0 : S16x2048.Idx → EReal) (((cfg0.win 0).blk ⟨16 * (t.val / 16), hs⟩).view.emb (ix2 r k)) _ _
      (by blk_simp [e0]) (by blk_simp [e0])
  have hg : ∀ k, (iblk m c 1 ⟨16 * (t.val / 16), hs⟩ : S1x2048.Idx → EReal) (ix2 0 k)
      = (V m c main_v3 : S1x2048.Idx → EReal) (ix2 0 k) := fun k =>
    read_2 (V m c main_v3 : S1x2048.Idx → EReal) (((cfg0.win 1).blk ⟨16 * (t.val / 16), hs⟩).view.emb (ix2 0 k)) _ _
      (by blk_simp [e1]) (by blk_simp [e1])
  have hw : ∀ k, (iblk m c 2 t : S2048x1024.Idx → EReal) (ix2 k j)
      = (V m c main_v2 : S2048x16384.Idx → EReal) (ix2 k ⟨1024 * (t.val % 16) + j.val, col⟩) := fun k =>
    read_2 (V m c main_v2 : S2048x16384.Idx → EReal) (((cfg0.win 2).blk t).view.emb (ix2 k j)) _ _
      (by blk_simp [e2]) (by blk_simp [e2]; simp; omega)
  have hy : out m c (((cfg0.win 3).blk t).view.emb (ix2 r j)) = out m c (ix2 r ⟨1024 * (t.val % 16) + j.val, col⟩) :=
    read_2 _ _ _ _ (by blk_simp [e3]) (by blk_simp [e3]; simp; omega)
  refine Eq.trans ?_ hy.symm
  exact Finset.sum_congr rfl fun k _ => congrArg₂ (· * ·) ((norm_at _ _ r k).trans (congrArg₂ (normed · · k)
    (funext fun k => (hx k).trans (input_at m c _ k)) (funext fun k => (hg k).trans (scale_at m c k))))
    ((hw k).trans (weights_at m c k _))
end kernel

section reference
open Cert.Reference6Ideal
/-- The normalised rows, at an index. -/
theorem normed_at (x : FVec Ideal S16x2048 .f32) (g : FVec Ideal S1x2048 .f32) (r : Fin 16) (k : Fin 2048) :
    (mulf (mulf x (broadcastInDim S16x2048 ![0, 1] Gen.facts.bcast_S16x1_S16x2048_0_1 (Host.rsqrt (addf
      (Host.divf (broadcastInDim S16x1 ![0] Gen.facts.bcast_S16_S16x1_0
          (Host.reduceAdd (mulf x x) (constant S_ .f32 0x00000000#32) Gen.facts.reducesTo_S16x2048_S16_d1 Gen.facts.h_S_))
        (broadcastInDim S16x1 ![] Gen.facts.bcast_S_S16x1 (constant S_ .f32 0x45000000#32)))
      (broadcastInDim S16x1 ![] Gen.facts.bcast_S_S16x1 (constant S_ .f32 0x358637BD#32))))))
      (broadcastInDim S16x2048 ![0, 1] Gen.facts.bcast_S1x2048_S16x2048_0_1
        (broadcastInDim S1x2048 ![1] Gen.facts.bcast_S2048_S1x2048_1 (shapeCast _ g Gen.facts.shapeCasts_S1x2048_S2048)))
      : FVec Ideal S16x2048 .f32) (ix2 r k)
      = (normed (fun k => x (ix2 r k)) (fun k => g (ix2 0 k)) k : EReal) := by
  pointwise
  rfl

/-- The product with the weights, at an index. -/
theorem product_at (y : FVec Ideal S16x2048 .f32) (w : FVec Ideal S1x2048x16384 .f32) (r : Fin 16) (j : Fin 16384) :
    (Host.dotGeneral dot_S16x2048_S2048x16384_S16x16384_1_0_0_1_n_n none y
      (shapeCast _ w Gen.facts.shapeCasts_S1x2048x16384_S2048x16384) (ix2 r j) : EReal) = ∑ k, y (ix2 r k) * w (ix3 0 k j) := by
  pointwise

variable (m : (ℓ : Loc nD τ sig) → Buf (Elt Ideal) ℓ) (ρ : Dev nD → PrngReg)

theorem reference_run : θ_run defs (onTc (τ := τ) (main (F := Ideal))) ⟨m, fun _ => 0, ρ⟩ fun r => ∀ c : Dev nD,
      r.2.mem ((c.tc : Thread nD τ).loc main_v16) = array (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  obtain ⟨r, j, rfl⟩ : ∃ (r : Fin 16) (j : Fin 16384), i = ix2 r j := ⟨i 0, i 1, ValueIdx.eq_ix2 i⟩
  refine (product_at _ _ r j).trans ?_
  exact Finset.sum_congr rfl fun k _ => congrArg (· * _) (normed_at _ _ r k)
end reference

end Cert.MetaProj

end
-- ==== Proof.lean ====
/- The claims, assembled: the frames, the rewriting of nothing, and the equation. The kernel's frame is the idealized
   kernel's, written once over any floats and read at the bits. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.SameText
public import proofs.«01_k».proof.Proof.Gen.ReferenceIdeal.Run
public import proofs.«01_k».proof.Proof.BlockValue
public import proofs.«01_k».proof.Proof.RefValue
public import proofs.«01_k».proof.Proof.Gen.Kernel2.Frame
public import proofs.«01_k».proof.Proof.Gen.Kernel3.Frame
public import proofs.«01_k».proof.Proof.Gen.Kernel4.Frame
public import proofs.«01_k».proof.Proof.InProj
public import proofs.«01_k».proof.Proof.Merge
public import proofs.«01_k».proof.Proof.Residual
public import proofs.«01_k».proof.Proof.Query
public import proofs.«01_k».proof.Proof.Gen.Kernel6.Frame
public import proofs.«01_k».proof.Proof.Gen.Kernel6Ideal.Frame
public import proofs.«01_k».proof.Proof.MetaProj
public import Idealize.ShloMosaic.Lib.ReduceAll

@[expose] public section

noncomputable section

namespace Cert.Proof

open Idealize.ShloMosaic Idealize.SL.Sem

instance preFacts : Cert.Pre_finite_lower_bound_logits.Facts := ⟨by decide, by decide, by decide⟩

/-- The kernel's frame: the idealized kernel's run, read at the bits. -/
theorem frame_kernel : @Cert.quiescent_Kernel Cert.Kernel.Gen.facts := by
  intro m ρ _
  rw [Cert.SameText.defs_eq, Cert.SameText.main_eq]
  exact Cert.KernelIdeal.Block.frame_main (F := Bits) m ρ

/-- The reference's frame: its run at its argument arrays; it has no semaphore. -/
theorem frame_reference : @Cert.quiescent_ReferenceIdeal Cert.ReferenceIdeal.Gen.facts := by
  intro m ρ _
  exact (θ_run Cert.ReferenceIdeal.defs _ _).mono (fun r h => ⟨fun c => (h c).2, sem_eq_zero_of_no_sems (by decide) r.2⟩)
    (Cert.ReferenceIdeal.Value.run (F := Ideal) m ρ)

instance : Subsingleton Cert.Pre_finite_lower_bound_logits.S_.Idx := ⟨fun a b => funext fun i => i.elim0⟩

/-- What the precondition says: every logit of the lower bound is a real number. -/
theorem logits_real (x : (⟨2, ![2, 2048]⟩ : Shape).Idx → EReal)
    (a : FVec Ideal Cert.Pre_finite_lower_bound_logits.S16384x16384 .bf16) (b : FVec Ideal Cert.Pre_finite_lower_bound_logits.S1x2048 .f32)
    (d : FVec Ideal Cert.Pre_finite_lower_bound_logits.S16x128x128 .f32)
    (h : Cert.Pre_finite_lower_bound_logits.fn (F := Ideal) a x b d = fun _ => 1#1) (i : Fin 2) (j : Fin 2048) :
    ∃ r : ℝ, x (ix2 i j) = r := by
  have h0 := congrFun h (fun i => i.elim0)
  dsimp only [Cert.Pre_finite_lower_bound_logits.fn] at h0
  have h1 := Host.reduce_andi_all _ _ _ _ _ h0 (ix2 i j)
  have h2 : Ideal.cmp .olt (max (x (ix2 i j)) (-x (ix2 i j))) (Ideal.ofBits .f32 0x7F800000#32) = 1#1 := h1
  rw [LowerBound.word_top] at h2
  have h3 : max (x (ix2 i j)) (-x (ix2 i j)) < ⊤ := by
    by_contra hn
    have : Ideal.cmp .olt (max (x (ix2 i j)) (-x (ix2 i j))) ⊤ = 0#1 := by simp [Ideal.cmp, hn]
    rw [this] at h2
    exact absurd h2 (by decide)
  generalize x (ix2 i j) = y at h3 ⊢
  induction y using EReal.rec with
  | bot => simp at h3
  | coe r => exact ⟨r, rfl⟩
  | top => simp at h3

/-- The equation: both programs leave the branch's array. -/
theorem algebraic : @Cert.algebraic_KernelIdeal_ReferenceIdeal_pre_finite_lower_bound_logits
    Cert.KernelIdeal.Gen.facts Cert.ReferenceIdeal.Gen.facts preFacts := by
  intro m g m' g' hpre hargs
  have hL : ∀ c j, ∃ r : ℝ, 0 < r ∧ r < 1 ∧ Cert.KernelIdeal.Block.bound m c j = r := fun c j =>
    Cert.LowerBound.low_real _ (logits_real _ _ _ _ (hpre c)) j
  refine ⟨fun c => Branch.array (Cert.KernelIdeal.Block.proj m c) (Cert.KernelIdeal.Block.bound m c)
    (Cert.KernelIdeal.Block.weights m c) (Cert.KernelIdeal.Block.start m c), ?_, ?_⟩
  · refine (θ_run Cert.KernelIdeal.defs _ _).mono (fun r h c => ⟨?_, h.2.1 c⟩)
      (θ_run_and (Cert.KernelIdeal.Block.run_main m g) (Cert.KernelIdeal.Block.frame_main m g))
    exact ((h.1 c).1 7).trans (Cert.KernelIdeal.Block.array_eq m c (hL c))
  · refine (θ_run Cert.ReferenceIdeal.defs _ _).mono (fun r h c => ⟨?_, (h c).2⟩)
      (Cert.ReferenceIdeal.Value.run (F := Ideal) m' g')
    refine (h c).1.trans ((Cert.ReferenceIdeal.Value.result_eq m' c).trans ?_)
    obtain ⟨h0, h1, h2, h3⟩ := hargs c
    unfold Cert.ReferenceIdeal.Value.bound Cert.ReferenceIdeal.Value.proj Cert.ReferenceIdeal.Value.logits
      Cert.ReferenceIdeal.Value.weights Cert.ReferenceIdeal.Value.start
    rw [h0, h1, h2, h3]

/-- The input projection: its reference's frame, and the equation. -/
theorem frame_reference2 : @Cert.quiescent_Reference2Ideal Cert.Reference2Ideal.Gen.facts := by
  intro m ρ _
  exact (θ_run Cert.Reference2Ideal.defs _ _).mono (fun r h => ⟨fun c => (h c).2, sem_eq_zero_of_no_sems (by decide) r.2⟩)
    (Cert.InProj.reference_run m ρ)

theorem algebraic2 : @Cert.algebraic_Kernel2Ideal_Reference2Ideal Cert.Kernel2Ideal.Gen.facts Cert.Reference2Ideal.Gen.facts := by
  intro m g m' g' _ hargs
  refine ⟨fun c => Cert.InProj.out m c, ?_, ?_⟩
  · exact (θ_run Cert.Kernel2Ideal.defs _ _).mono (fun r h c => ⟨(h c).1.trans (Cert.InProj.kernel_eq m c), (h c).2⟩)
      (Cert.Kernel2Ideal.Value.run_blocks (F := Ideal) m g)
  · refine (θ_run Cert.Reference2Ideal.defs _ _).mono (fun r h c => ⟨(h c).1.trans ?_, (h c).2⟩) (Cert.InProj.reference_run m' g')
    obtain ⟨h0, h1, h2⟩ := hargs c
    rw [h0, h1, h2]

/-- The merge: its reference's frame, and the equation. -/
theorem frame_reference3 : @Cert.quiescent_Reference3Ideal Cert.Reference3Ideal.Gen.facts := by
  intro m ρ _
  exact (θ_run Cert.Reference3Ideal.defs _ _).mono (fun r h => ⟨fun c => (h c).2, sem_eq_zero_of_no_sems (by decide) r.2⟩)
    (Cert.Merge.reference_run m ρ)

theorem algebraic3 : @Cert.algebraic_Kernel3Ideal_Reference3Ideal Cert.Kernel3Ideal.Gen.facts Cert.Reference3Ideal.Gen.facts := by
  intro m g m' g' _ hargs
  refine ⟨fun c => Cert.Merge.out m c, ?_, ?_⟩
  · exact (θ_run Cert.Kernel3Ideal.defs _ _).mono (fun r h c => ⟨(h c).1.trans (Cert.Merge.kernel_eq m c), (h c).2⟩)
      (Cert.Kernel3Ideal.Value.run_blocks (F := Ideal) m g)
  · refine (θ_run Cert.Reference3Ideal.defs _ _).mono (fun r h c => ⟨(h c).1.trans ?_, (h c).2⟩) (Cert.Merge.reference_run m' g')
    obtain ⟨h0, h1, h2, h3, h4⟩ := hargs c
    rw [h0, h1, h2, h3, h4]

/-- The output projection: its reference's frame, and the equation. -/
theorem frame_reference4 : @Cert.quiescent_Reference4Ideal Cert.Reference4Ideal.Gen.facts := by
  intro m ρ _
  exact (θ_run Cert.Reference4Ideal.defs _ _).mono (fun r h => ⟨fun c => (h c).2, sem_eq_zero_of_no_sems (by decide) r.2⟩)
    (Cert.Residual.reference_run m ρ)

theorem algebraic4 : @Cert.algebraic_Kernel4Ideal_Reference4Ideal Cert.Kernel4Ideal.Gen.facts Cert.Reference4Ideal.Gen.facts := by
  intro m g m' g' _ hargs
  refine ⟨fun c => Cert.Residual.out m c, ?_, ?_⟩
  · exact (θ_run Cert.Kernel4Ideal.defs _ _).mono (fun r h c => ⟨(h c).1.trans (Cert.Residual.kernel_eq m c), (h c).2⟩)
      (Cert.Kernel4Ideal.Value.run_blocks (F := Ideal) m g)
  · refine (θ_run Cert.Reference4Ideal.defs _ _).mono (fun r h c => ⟨(h c).1.trans ?_, (h c).2⟩) (Cert.Residual.reference_run m' g')
    obtain ⟨h0, h1, h2⟩ := hargs c
    rw [h0, h1, h2]

/-- The query projection: its frame at the bits, its reference's frame, and the equation. -/
theorem frame_kernel5 : @Cert.quiescent_Kernel5 Cert.Kernel5.Gen.facts := by
  intro m ρ _
  rw [Cert.SameText.defs5_eq, Cert.SameText.main5_eq]
  exact Cert.Kernel5Ideal.Query.frame_main (F := Bits) m ρ

theorem frame_reference5 : @Cert.quiescent_Reference5Ideal Cert.Reference5Ideal.Gen.facts := by
  intro m ρ _
  exact (θ_run Cert.Reference5Ideal.defs _ _).mono (fun r h => ⟨fun c => (h c).2.2, sem_eq_zero_of_no_sems (by decide) r.2⟩)
    (Cert.Query.reference_run m ρ)

theorem algebraic5 : @Cert.algebraic_Kernel5Ideal_Reference5Ideal Cert.Kernel5Ideal.Gen.facts Cert.Reference5Ideal.Gen.facts := by
  intro m g m' g' _ hargs
  refine ⟨fun c => Cert.Query.out0 m c, fun c => Cert.Query.out1 m c, Cert.Query.kernel_run m g, ?_⟩
  refine (θ_run Cert.Reference5Ideal.defs _ _).mono (fun r h c => ⟨(h c).1.trans ?_, (h c).2.1.trans ?_, (h c).2.2⟩) (Cert.Query.reference_run m' g')
  · obtain ⟨h0, h1, h2⟩ := hargs c
    rw [h0, h1, h2]
  · obtain ⟨h0, h1, -⟩ := hargs c
    rw [h0, h1]

/-- The meta tokens' input projection: its reference's frame, and the equation. -/
theorem frame_reference6 : @Cert.quiescent_Reference6Ideal Cert.Reference6Ideal.Gen.facts := by
  intro m ρ _
  exact (θ_run Cert.Reference6Ideal.defs _ _).mono (fun r h => ⟨fun c => (h c).2, sem_eq_zero_of_no_sems (by decide) r.2⟩)
    (Cert.MetaProj.reference_run m ρ)

theorem algebraic6 : @Cert.algebraic_Kernel6Ideal_Reference6Ideal Cert.Kernel6Ideal.Gen.facts Cert.Reference6Ideal.Gen.facts := by
  intro m g m' g' _ hargs
  refine ⟨fun c => Cert.MetaProj.out m c, ?_, ?_⟩
  · exact (θ_run Cert.Kernel6Ideal.defs _ _).mono (fun r h c => ⟨(h c).1.trans (Cert.MetaProj.kernel_eq m c), (h c).2⟩)
      (Cert.Kernel6Ideal.Value.run_blocks (F := Ideal) m g)
  · refine (θ_run Cert.Reference6Ideal.defs _ _).mono (fun r h c => ⟨(h c).1.trans ?_, (h c).2⟩) (Cert.MetaProj.reference_run m' g')
    obtain ⟨h0, h1, h2⟩ := hargs c
    rw [h0, h1, h2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, preFacts,
  frame_kernel, fun m ρ _ => Cert.KernelIdeal.Block.frame_main m ρ, fun m ρ _ => Cert.KernelIdeal.Block.frame_main m ρ,
  frame_reference, fun m ρ _ => frame_reference m ρ trivial,
  fun m ρ _ => Cert.Kernel2.Gen.frame (F := Bits) m ρ, fun m ρ _ => Cert.Kernel2Ideal.Gen.frame (F := Ideal) m ρ, frame_reference2,
  fun m ρ _ => Cert.Kernel3.Gen.frame (F := Bits) m ρ, fun m ρ _ => Cert.Kernel3Ideal.Gen.frame (F := Ideal) m ρ, frame_reference3,
  fun m ρ _ => Cert.Kernel4.Gen.frame (F := Bits) m ρ, fun m ρ _ => Cert.Kernel4Ideal.Gen.frame (F := Ideal) m ρ, frame_reference4,
  frame_kernel5, fun m ρ _ => Cert.Kernel5Ideal.Query.frame_main (F := Ideal) m ρ, frame_reference5,
  fun m ρ _ => Cert.Kernel6.Gen.frame (F := Bits) m ρ, fun m ρ _ => Cert.Kernel6Ideal.Gen.frame (F := Ideal) m ρ, frame_reference6,
  trivial, algebraic, trivial, algebraic2, trivial, algebraic3, trivial, algebraic4, trivial, algebraic5, trivial, algebraic6⟩

end Cert.Proof

end
